-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S2x256x1024 : Shape := ⟨3, ![2, 256, 1024]⟩
abbrev S12 : Shape := ⟨1, ![12]⟩
abbrev S_ : Shape := ⟨0, ![]⟩
abbrev S128x512 : Shape := ⟨2, ![128, 512]⟩
abbrev S128x1024 : Shape := ⟨2, ![128, 1024]⟩
abbrev S1x128x1024 : Shape := ⟨3, ![1, 128, 1024]⟩
abbrev S1 : Shape := ⟨1, ![1]⟩
abbrev S256x512 : Shape := ⟨2, ![256, 512]⟩
abbrev S256x1024 : Shape := ⟨2, ![256, 1024]⟩

abbrev nBuf : Space → Nat
  | .hbm => 3
  | .vmem => 9
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .bf16⟩
  | .local _ .vmem, ⟨0, _⟩ => ⟨S1024x512, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .f32⟩
  | .local _ .vmem, ⟨4, _⟩ => ⟨S512x1024, .bf16⟩
  | .local _ .vmem, ⟨5, _⟩ => ⟨S2x256x1024, .bf16⟩
  | .local _ .vmem, ⟨6, _⟩ => ⟨S2x256x1024, .bf16⟩
  | .local _ .vmem, ⟨7, _⟩ => ⟨S2x256x1024, .bf16⟩
  | .local _ .vmem, ⟨8, _⟩ => ⟨S2x256x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) (c0_i32_20 : BitVec 32) : Fin 2 → Nat :=
  let c0_i32_16 : BitVec 32 := 0#32
  let c1_i32_14 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v15 : BitVec 32 := Scalar.shrsi v2 c1_i32_9
  let v16 : BitVec 32 := Scalar.xori v2 v15
  let c1_i32_10 : BitVec 32 := 1#32
  let v17 : BitVec 32 := Scalar.andi v16 c1_i32_10
  let v23 : BitVec 32 := Scalar.subi c1_i32_14 v17
  let c256_i32_15 : BitVec 32 := 256#32
  let v24 : BitVec 32 := Scalar.muli v23 c256_i32_15
  let v25 : BitVec 32 := Scalar.addi c0_i32_16 v24
  let v29 : BitVec 32 := Scalar.addi v25 c0_i32_20
  let v30 : Index := Scalar.indexCast v29
  let c0_21 : Index := 0#32
  ![v30.toNat, 0]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_31 : BitVec 32 := 1#32
  let v39 : BitVec 32 := Scalar.muli v3 c1_i32_31
  let v40 : BitVec 32 := Scalar.addi c0_i32_32 v39
  v40.toNat
def k0_off2 (d0 : Dev nD) (c0_i32_37 : BitVec 32) : Fin 2 → Nat :=
  let c512_i32_19 : BitVec 32 := 512#32
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v18 : BitVec 32 := Scalar.shrsi v2 c1_i32_11
  let v26 : BitVec 32 := Scalar.subi c1_i32_17 v18
  let c256_i32_18 : BitVec 32 := 256#32
  let v27 : BitVec 32 := Scalar.muli v26 c256_i32_18
  let v28 : BitVec 32 := Scalar.addi c512_i32_19 v27
  let v49 : BitVec 32 := Scalar.addi v28 c0_i32_37
  let v50 : Index := Scalar.indexCast v49
  let c0_38 : Index := 0#32
  ![v50.toNat, 0]
def k0_dev4 (d0 : Dev nD) : Nat :=
  let c0_i32_49 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_48 : BitVec 32 := 1#32
  let v59 : BitVec 32 := Scalar.muli v4 c1_i32_48
  let v60 : BitVec 32 := Scalar.addi c0_i32_49 v59
  v60.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_64 : BitVec 32 := 1#32
  let v79 : BitVec 32 := Scalar.muli v3 c1_i32_64
  let v80 : BitVec 32 := Scalar.addi c0_i32_65 v79
  v80.toNat
def k0_dev6 (d0 : Dev nD) : Nat :=
  let c0_i32_83 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_82 : BitVec 32 := 1#32
  let v99 : BitVec 32 := Scalar.muli v4 c1_i32_82
  let v100 : BitVec 32 := Scalar.addi c0_i32_83 v99
  v100.toNat
def k0_off3 (d0 : Dev nD) : Fin 2 → Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v15 : BitVec 32 := Scalar.shrsi v2 c1_i32_9
  let v16 : BitVec 32 := Scalar.xori v2 v15
  let c1_i32_10 : BitVec 32 := 1#32
  let v17 : BitVec 32 := Scalar.andi v16 c1_i32_10
  let c256_i32 : BitVec 32 := 256#32
  let v19 : BitVec 32 := Scalar.muli v17 c256_i32
  let v20 : BitVec 32 := Scalar.addi c0_i32_12 v19
  let v109 : Index := Scalar.indexCast v20
  let c0_88 : Index := 0#32
  ![v109.toNat, 0]
def k0_off4 (d0 : Dev nD) : Fin 2 → Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v15 : BitVec 32 := Scalar.shrsi v2 c1_i32_9
  let v16 : BitVec 32 := Scalar.xori v2 v15
  let c1_i32_10 : BitVec 32 := 1#32
  let v17 : BitVec 32 := Scalar.andi v16 c1_i32_10
  let c256_i32 : BitVec 32 := 256#32
  let v19 : BitVec 32 := Scalar.muli v17 c256_i32
  let v20 : BitVec 32 := Scalar.addi c0_i32_12 v19
  let v114 : Index := Scalar.indexCast v20
  let c0_92 : Index := 0#32
  ![v114.toNat, 0]
def k0_off5 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v18 : BitVec 32 := Scalar.shrsi v2 c1_i32_11
  let c256_i32_13 : BitVec 32 := 256#32
  let v21 : BitVec 32 := Scalar.muli v18 c256_i32_13
  let v22 : BitVec 32 := Scalar.addi c512_i32 v21
  let v118 : Index := Scalar.indexCast v22
  let c0_93 : Index := 0#32
  ![v118.toNat, 0]
def k0_off6 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v18 : BitVec 32 := Scalar.shrsi v2 c1_i32_11
  let c256_i32_13 : BitVec 32 := 256#32
  let v21 : BitVec 32 := Scalar.muli v18 c256_i32_13
  let v22 : BitVec 32 := Scalar.addi c512_i32 v21
  let v123 : Index := Scalar.indexCast v22
  let c0_97 : Index := 0#32
  ![v123.toNat, 0]
def k0_off7 (d0 : Dev nD) (c0_i32_117 : BitVec 32) : Fin 2 → Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v15 : BitVec 32 := Scalar.shrsi v2 c1_i32_9
  let v16 : BitVec 32 := Scalar.xori v2 v15
  let c1_i32_10 : BitVec 32 := 1#32
  let v17 : BitVec 32 := Scalar.andi v16 c1_i32_10
  let c256_i32 : BitVec 32 := 256#32
  let v19 : BitVec 32 := Scalar.muli v17 c256_i32
  let v20 : BitVec 32 := Scalar.addi c0_i32_12 v19
  let v141 : BitVec 32 := Scalar.addi v20 c0_i32_117
  let v142 : Index := Scalar.indexCast v141
  let c0_118 : Index := 0#32
  ![v142.toNat, 0]
def k0_dev7 (d0 : Dev nD) : Nat :=
  let c0_i32_131 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_130 : BitVec 32 := 1#32
  let v156 : BitVec 32 := Scalar.muli v4 c1_i32_130
  let v157 : BitVec 32 := Scalar.addi c0_i32_131 v156
  v157.toNat
def k0_off8 (d0 : Dev nD) (c0_i32_155 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v18 : BitVec 32 := Scalar.shrsi v2 c1_i32_11
  let c256_i32_13 : BitVec 32 := 256#32
  let v21 : BitVec 32 := Scalar.muli v18 c256_i32_13
  let v22 : BitVec 32 := Scalar.addi c512_i32 v21
  let v180 : BitVec 32 := Scalar.addi v22 c0_i32_155
  let v181 : Index := Scalar.indexCast v180
  let c0_156 : Index := 0#32
  ![v181.toNat, 0]
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_167 : BitVec 32 := 1#32
  let v195 : BitVec 32 := Scalar.muli v3 c1_i32_167
  let v196 : BitVec 32 := Scalar.addi c0_i32_168 v195
  v196.toNat
def k0_dev9 (d0 : Dev nD) : Nat :=
  let c0_i32_205 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_204 : BitVec 32 := 1#32
  let v234 : BitVec 32 := Scalar.muli v4 c1_i32_204
  let v235 : BitVec 32 := Scalar.addi c0_i32_205 v234
  v235.toNat
def k0_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_241 : BitVec 32 := 1#32
  let v273 : BitVec 32 := Scalar.muli v3 c1_i32_241
  let v274 : BitVec 32 := Scalar.addi c0_i32_242 v273
  v274.toNat
def k0_off9 (d0 : Dev nD) (c0_i32_266 : BitVec 32) : Fin 2 → Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v15 : BitVec 32 := Scalar.shrsi v2 c1_i32_9
  let v16 : BitVec 32 := Scalar.xori v2 v15
  let c1_i32_10 : BitVec 32 := 1#32
  let v17 : BitVec 32 := Scalar.andi v16 c1_i32_10
  let c256_i32 : BitVec 32 := 256#32
  let v19 : BitVec 32 := Scalar.muli v17 c256_i32
  let v20 : BitVec 32 := Scalar.addi c0_i32_12 v19
  let v297 : BitVec 32 := Scalar.addi v20 c0_i32_266
  let c0_i32_275 : BitVec 32 := 0#32
  ![v297.toNat, 0]
def k0_dev11 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_273 : BitVec 32 := 1#32
  let v307 : BitVec 32 := Scalar.muli v3 c1_i32_273
  let v308 : BitVec 32 := Scalar.addi c0_i32_274 v307
  v308.toNat
def k0_off10 (d0 : Dev nD) (c0_i32_296 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v18 : BitVec 32 := Scalar.shrsi v2 c1_i32_11
  let c256_i32_13 : BitVec 32 := 256#32
  let v21 : BitVec 32 := Scalar.muli v18 c256_i32_13
  let v22 : BitVec 32 := Scalar.addi c512_i32 v21
  let v329 : BitVec 32 := Scalar.addi v22 c0_i32_296
  let c0_i32_305 : BitVec 32 := 0#32
  ![v329.toNat, 0]
def k0_dev12 (d0 : Dev nD) : Nat :=
  let c0_i32_304 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_303 : BitVec 32 := 1#32
  let v339 : BitVec 32 := Scalar.muli v4 c1_i32_303
  let v340 : BitVec 32 := Scalar.addi c0_i32_304 v339
  v340.toNat
def k0_dev13 (d0 : Dev nD) : Nat :=
  let c0_i32_334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_333 : BitVec 32 := 1#32
  let v371 : BitVec 32 := Scalar.muli v3 c1_i32_333
  let v372 : BitVec 32 := Scalar.addi c0_i32_334 v371
  v372.toNat
def k0_dev14 (d0 : Dev nD) : Nat :=
  let c0_i32_364 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_363 : BitVec 32 := 1#32
  let v403 : BitVec 32 := Scalar.muli v4 c1_i32_363
  let v404 : BitVec 32 := Scalar.addi c0_i32_364 v403
  v404.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x1024, .bf16⟩
  | .hbm, ⟨2, _⟩ => ⟨S1024x2048, .f32⟩
  | .hbm, ⟨3, _⟩ => ⟨S2048x1024, .f32⟩
  | .hbm, ⟨4, _⟩ => ⟨S1024x1024, .f32⟩
  | .hbm, ⟨5, _⟩ => ⟨S1024x1024, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Mesh.lean ====
/-
The four devices, their two exchange partners, the chunks each transfer moves and the semaphore cells.

Device `p` has the partners `p xor 1` (`pA`) and `3 - p` (`pB`). The result is cut into two tiles of 512 rows, a
tile into two halves of 256 rows, a half into two chunks of 128 rows. Transfer number `i = 4·phase + 2·chunk + tile`
goes to `peer i`: in phases 0 and 2 tile 0 is exchanged with `pA` and tile 1 with `pB`, in phase 1 the other way round.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Butterfly

open Cert.KernelIdeal Cert.KernelIdeal.Gen

open Idealize.ShloMosaic
open Idealize.ShloMosaic.TcCoe
open Idealize.SL Idealize.SL.Sem

/-! ## Partners -/

/-- The partner across the first tree: `c xor 1`. -/
def pA (c : Dev nD) : Dev nD := ⟨if c.val % 2 = 0 then c.val + 1 else c.val - 1, by revert c; decide⟩
/-- The partner across the second tree: `3 - c`. -/
def pB (c : Dev nD) : Dev nD := ⟨3 - c.val, by revert c; decide⟩

theorem pA_pA (c : Dev nD) : pA (pA c) = c := by revert c; decide
theorem pB_pB (c : Dev nD) : pB (pB c) = c := by revert c; decide
theorem pA_ne_pB (c : Dev nD) : pA c ≠ pB c := by revert c; decide

/-- The half of tile `t` device `c` keeps and sums up. -/
def keep (t : Fin 2) (c : Dev nD) : Fin 2 :=
  if t = 0 then (if c.val = 1 ∨ c.val = 2 then 1 else 0) else (if c.val < 2 then 0 else 1)
/-- The other half of a half. -/
def other (h : Fin 2) : Fin 2 := 1 - h

theorem keep_zero_pA (c : Dev nD) : keep 0 (pA c) = other (keep 0 c) := by revert c; decide
theorem keep_one_pB (c : Dev nD) : keep 1 (pB c) = other (keep 1 c) := by revert c; decide
theorem keep_zero_pB (c : Dev nD) : keep 0 (pB c) = keep 0 c := by revert c; decide
theorem keep_one_pA (c : Dev nD) : keep 1 (pA c) = keep 1 c := by revert c; decide

/-- The phase (0, 1, 2), the chunk and the tile of transfer `i`. -/
def phase (i : Fin 12) : ℕ := i.val / 4
def chunkOf (i : Fin 12) : Fin 2 := ⟨i.val / 2 % 2, Nat.mod_lt _ (by decide)⟩
def tileOf (i : Fin 12) : Fin 2 := ⟨i.val % 2, Nat.mod_lt _ (by decide)⟩

/-- Whether transfer `i` goes to the partner `pA` (else `pB`). -/
def toA (i : Fin 12) : Bool := decide (tileOf i = 0) != decide (phase i = 1)
/-- The partner of transfer `i`. -/
def peer (i : Fin 12) (c : Dev nD) : Dev nD := if toA i = true then pA c else pB c

theorem peer_peer (i : Fin 12) (c : Dev nD) : peer i (peer i c) = c := by
  unfold peer; split
  · exact pA_pA c
  · exact pB_pB c

/-- Exchanging with the partner of transfer `i`, as a permutation of the devices. -/
def swap (i : Fin 12) : Dev nD ≃ Dev nD := ⟨peer i, peer i, peer_peer i, peer_peer i⟩
def swapA : Dev nD ≃ Dev nD := ⟨pA, pA, pA_pA, pA_pA⟩
def swapB : Dev nD ≃ Dev nD := ⟨pB, pB, pB_pB, pB_pB⟩

/-! The devices the program names. -/

theorem dev1_eq (c : Dev nD) : (⟨k0_dev1 c, k0_dev1_lt c⟩ : Dev nD) = pA c := by revert c; decide
theorem dev2_eq (c : Dev nD) : (⟨k0_dev2 c, k0_dev2_lt c⟩ : Dev nD) = pB c := by revert c; decide
theorem dev3_eq (c : Dev nD) : (⟨k0_dev3 c, k0_dev3_lt c⟩ : Dev nD) = peer 0 c := by revert c; decide
theorem dev4_eq (c : Dev nD) : (⟨k0_dev4 c, k0_dev4_lt c⟩ : Dev nD) = peer 1 c := by revert c; decide
theorem dev5_eq (c : Dev nD) : (⟨k0_dev5 c, k0_dev5_lt c⟩ : Dev nD) = peer 2 c := by revert c; decide
theorem dev6_eq (c : Dev nD) : (⟨k0_dev6 c, k0_dev6_lt c⟩ : Dev nD) = peer 3 c := by revert c; decide
theorem dev7_eq (c : Dev nD) : (⟨k0_dev7 c, k0_dev7_lt c⟩ : Dev nD) = peer 4 c := by revert c; decide
theorem dev8_eq (c : Dev nD) : (⟨k0_dev8 c, k0_dev8_lt c⟩ : Dev nD) = peer 5 c := by revert c; decide
theorem dev9_eq (c : Dev nD) : (⟨k0_dev9 c, k0_dev9_lt c⟩ : Dev nD) = peer 6 c := by revert c; decide
theorem dev10_eq (c : Dev nD) : (⟨k0_dev10 c, k0_dev10_lt c⟩ : Dev nD) = peer 7 c := by revert c; decide
theorem dev11_eq (c : Dev nD) : (⟨k0_dev11 c, k0_dev11_lt c⟩ : Dev nD) = peer 8 c := by revert c; decide
theorem dev12_eq (c : Dev nD) : (⟨k0_dev12 c, k0_dev12_lt c⟩ : Dev nD) = peer 9 c := by revert c; decide
theorem dev13_eq (c : Dev nD) : (⟨k0_dev13 c, k0_dev13_lt c⟩ : Dev nD) = peer 10 c := by revert c; decide
theorem dev14_eq (c : Dev nD) : (⟨k0_dev14 c, k0_dev14_lt c⟩ : Dev nD) = peer 11 c := by revert c; decide

/-! ## Rectangles of rows -/

theorem inb_row (t h j : Fin 2) : ∀ a, (![512 * t.val + 256 * h.val + 128 * j.val, 0] : Fin 2 → ℕ) a + S128x1024.size a ≤ S1024x1024.size a := by
  revert t h j; decide
theorem inb_half (t h : Fin 2) : ∀ a, (![512 * t.val + 256 * h.val, 0] : Fin 2 → ℕ) a + S256x1024.size a ≤ S1024x1024.size a := by
  revert t h; decide
theorem inb_arow (t h j : Fin 2) : ∀ a, (![512 * t.val + 256 * h.val + 128 * j.val, 0] : Fin 2 → ℕ) a + S128x512.size a ≤ S1024x512.size a := by
  revert t h j; decide
theorem inb_ahalf (t h : Fin 2) : ∀ a, (![512 * t.val + 256 * h.val, 0] : Fin 2 → ℕ) a + S256x512.size a ≤ S1024x512.size a := by
  revert t h; decide
theorem inb_buf (t j : Fin 2) : ∀ a, (![t.val, 128 * j.val, 0] : Fin 3 → ℕ) a + S1x128x1024.size a ≤ S2x256x1024.size a := by
  revert t j; decide

/-- The 128 rows of chunk `j` of half `h` of tile `t`, in a 1024-row array of 1024 columns. -/
abbrev rowR (t h j : Fin 2) : Rect S1024x1024 := Rect.unit (s := S1024x1024) ![512 * t.val + 256 * h.val + 128 * j.val, 0] S128x1024.size (inb_row t h j)
/-- The 256 rows of half `h` of tile `t`. -/
abbrev halfR (t h : Fin 2) : Rect S1024x1024 := Rect.unit (s := S1024x1024) ![512 * t.val + 256 * h.val, 0] S256x1024.size (inb_half t h)
/-- The same rows of the 512-column operand. -/
abbrev arowR (t h j : Fin 2) : Rect S1024x512 := Rect.unit (s := S1024x512) ![512 * t.val + 256 * h.val + 128 * j.val, 0] S128x512.size (inb_arow t h j)
abbrev ahalfR (t h : Fin 2) : Rect S1024x512 := Rect.unit (s := S1024x512) ![512 * t.val + 256 * h.val, 0] S256x512.size (inb_ahalf t h)
/-- Chunk `j` of tile `t` of an exchange buffer. -/
abbrev bufR (t j : Fin 2) : Rect S2x256x1024 := Rect.unit (s := S2x256x1024) ![t.val, 128 * j.val, 0] S1x128x1024.size (inb_buf t j)

/-! ## Offsets of the program in these terms -/

theorem off1_eq (c : Dev nD) (j : Fin 2) : k0_off1 c (BitVec.ofNat 32 (128 * j.val)) = ![512 * (0 : Fin 2).val + 256 * (other (keep 0 c)).val + 128 * j.val, 0] := by
  revert c j; decide
theorem off2_eq (c : Dev nD) (j : Fin 2) : k0_off2 c (BitVec.ofNat 32 (128 * j.val)) = ![512 * (1 : Fin 2).val + 256 * (other (keep 1 c)).val + 128 * j.val, 0] := by
  revert c j; decide
theorem off3_eq (c : Dev nD) : k0_off3 c = ![512 * (0 : Fin 2).val + 256 * (keep 0 c).val, 0] := by revert c; decide
theorem off4_eq (c : Dev nD) : k0_off4 c = ![512 * (0 : Fin 2).val + 256 * (keep 0 c).val, 0] := by revert c; decide
theorem off5_eq (c : Dev nD) : k0_off5 c = ![512 * (1 : Fin 2).val + 256 * (keep 1 c).val, 0] := by revert c; decide
theorem off6_eq (c : Dev nD) : k0_off6 c = ![512 * (1 : Fin 2).val + 256 * (keep 1 c).val, 0] := by revert c; decide
theorem off7_eq (c : Dev nD) (j : Fin 2) : k0_off7 c (BitVec.ofNat 32 (128 * j.val)) = ![512 * (0 : Fin 2).val + 256 * (keep 0 c).val + 128 * j.val, 0] := by
  revert c j; decide
theorem off8_eq (c : Dev nD) (j : Fin 2) : k0_off8 c (BitVec.ofNat 32 (128 * j.val)) = ![512 * (1 : Fin 2).val + 256 * (keep 1 c).val + 128 * j.val, 0] := by
  revert c j; decide
theorem off9_eq (c : Dev nD) (j : Fin 2) : k0_off9 c (BitVec.ofNat 32 (128 * j.val)) = ![512 * (0 : Fin 2).val + 256 * (keep 0 c).val + 128 * j.val, 0] := by
  revert c j; decide
theorem off10_eq (c : Dev nD) (j : Fin 2) : k0_off10 c (BitVec.ofNat 32 (128 * j.val)) = ![512 * (1 : Fin 2).val + 256 * (keep 1 c).val + 128 * j.val, 0] := by
  revert c j; decide

/-! ## The memrefs -/

abbrev aM : Memref sig .tc .vmem S1024x512 .bf16 := Memref.whole cc0_stg0_0
abbrev bM : Memref sig .tc .vmem S512x1024 .bf16 := Memref.whole cc0_stg1_0
abbrev oM : Memref sig .tc .vmem S1024x1024 .bf16 := Memref.whole cc0_stg2_0
abbrev pM : Memref sig .tc .vmem S1024x1024 .f32 := Memref.whole cc0_scratch0
abbrev b16M : Memref sig .tc .vmem S512x1024 .bf16 := Memref.whole cc0_scratch1
abbrev sb0M : Memref sig .tc .vmem S2x256x1024 .bf16 := Memref.whole cc0_scratch2
abbrev rb0M : Memref sig .tc .vmem S2x256x1024 .bf16 := Memref.whole cc0_scratch3
abbrev sb1M : Memref sig .tc .vmem S2x256x1024 .bf16 := Memref.whole cc0_scratch4
abbrev rb1M : Memref sig .tc .vmem S2x256x1024 .bf16 := Memref.whole cc0_scratch5

/-- Chunk `j` of tile `t` of an exchange buffer, as a 128-row matrix. -/
def bufM (M : Memref sig .tc .vmem S2x256x1024 .bf16) (t j : Fin 2) : Memref sig .tc .vmem S128x1024 .bf16 :=
  (M.slice (bufR t j) (fun _ => rfl)).squeeze S128x1024 squeezes_S1x128x1024_S128x1024
/-- Chunk `(t, h, j)` of the result buffer. -/
def outM (t h j : Fin 2) : Memref sig .tc .vmem S128x1024 .bf16 := oM.slice (rowR t h j) (fun _ => rfl)

/-- What transfer `i` of device `c` reads (on `c`), and where it lands (on the partner). -/
def srcM (i : Fin 12) (c : Dev nD) : Memref sig .tc .vmem S128x1024 .bf16 :=
  match i with
  | 0 => bufM sb0M 0 0 | 1 => bufM sb0M 1 0 | 2 => bufM sb0M 0 1 | 3 => bufM sb0M 1 1
  | 4 => bufM sb1M 0 0 | 5 => bufM sb1M 1 0 | 6 => bufM sb1M 0 1 | 7 => bufM sb1M 1 1
  | 8 => outM 0 (keep 0 c) 0 | 9 => outM 1 (keep 1 c) 0 | 10 => outM 0 (keep 0 c) 1 | 11 => outM 1 (keep 1 c) 1
def dstM (i : Fin 12) (c : Dev nD) : Memref sig .tc .vmem S128x1024 .bf16 :=
  match i with
  | 0 => bufM rb0M 0 0 | 1 => bufM rb0M 1 0 | 2 => bufM rb0M 0 1 | 3 => bufM rb0M 1 1
  | 4 => bufM rb1M 0 0 | 5 => bufM rb1M 1 0 | 6 => bufM rb1M 0 1 | 7 => bufM rb1M 1 1
  | 8 => outM 0 (keep 0 c) 0 | 9 => outM 1 (keep 1 c) 0 | 10 => outM 0 (keep 0 c) 1 | 11 => outM 1 (keep 1 c) 1

/-! ## The semaphores and their cells -/

/-- The runtime's barrier semaphore. -/
abbrev barS : Sem sig := (SemArray.scalar (sig.barrier 0 rfl) : Sems sig S_).sem
/-- The send and receive semaphores of transfer `i`. -/
def sendS (i : Fin 12) : DmaSem sig := ⟨3 + i.val, by revert i; decide⟩
def recvS (i : Fin 12) : DmaSem sig := ⟨15 + i.val, by revert i; decide⟩

abbrev barCell (c : Dev nD) : GSem nD τ sig := ((c : Thread nD τ), .reg barS)
abbrev sendCell (i : Fin 12) (c : Dev nD) : GSem nD τ sig := ((c : Thread nD τ), .dma (sendS i))
abbrev recvCell (i : Fin 12) (c : Dev nD) : GSem nD τ sig := ((c : Thread nD τ), .dma (recvS i))

theorem recvS_inj {i k : Fin 12} (h : recvS i = recvS k) : i = k := Fin.ext (by have := congrArg Fin.val h; simp only [recvS] at this; omega)
theorem sendS_inj {i k : Fin 12} (h : sendS i = sendS k) : i = k := Fin.ext (by have := congrArg Fin.val h; simp only [sendS] at this; omega)

/-- The units one chunk's transfer counts on a semaphore. -/
abbrev N : ℕ := (bufM rb0M 0 0).view.dmaCredit
theorem N_pos : 0 < N := View.dmaCredit_pos _ (by decide)

theorem amount_dst (i : Fin 12) (c : Dev nD) (q : DmaSem sig) : (dstM i c).view.amount (.dma q) = N := by
  fin_cases i <;> rfl
theorem amount_src (i : Fin 12) (c : Dev nD) (q : DmaSem sig) : (srcM i c).view.amount (.dma q) = N := by
  fin_cases i <;> rfl

end Cert.Butterfly

end
-- ==== Proof.Chunks.lean ====
/-
Chunks of the buffers: what a load or a store through a rectangle does to a memref's slice that is owned with known
contents, the float32 scratch with its four summed chunks named, and buffers cut into chunks and put together again.
-/
module

public import proofs.«01_k».proof.Proof.Mesh
public import Idealize.ShloMosaic.Lib.Pipeline.Value

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds and the exchange's (two duties per cell) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The program `e` on device `c` runs to `Q`. -/
abbrev runs (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-- Device `c` owns the memref, which reads `X`. -/
abbrev own {sp : Space} {sh : Shape} {e : EltTy} (c : Dev nD) (M : Memref sig .tc sp sh e) (X : sh.Idx → Elt F e) : sProp 𝕄 :=
  owns (c : Thread nD τ) M fullShare X

/-! ## Loads and stores through an owned slice -/

section Slice

variable {s : Shape} {e : EltTy} {α : Type} (c : Dev nD) (M : Memref sig .tc .vmem s e) (r : Rect s) (hr : ∀ a, r.stride a = 1)

/-- A load through the rectangle of an owned slice yields its contents. -/
theorem load_slice {Q : α → sProp 𝕄} {hl : M.view.LoadsAt r.toLoadRect} {k : (r.shape.Idx → Elt F e) → Prog (TpuEff nD τ sig (Elt F) Λ₀ .tc) α} (X : r.shape.Idx → Elt F e) :
    own c (M.slice r hr) X ⊢ iprop((own c (M.slice r hr) X -∗ runs c (k X) Q) -∗ runs c (.op (.load M r.toLoadRect hl) k) Q) := by
  unfold own owns
  iintro ⟨%f, %hf, H⟩ Hk
  subst hf
  iapply (wp_load_rect 𝒱₀ (c : Thread nD τ) none Set.univ (m := M) (r := r) (S := (M.slice r hr).view.set) (q := fullShare) (f := f)
    (Finset.Subset.refl _)) $$ [H]
  · iexact H
  iintro H
  iapply Hk
  iexists f
  isplitr
  · ipureintro; rfl
  · iexact H

/-- A store through the rectangle of an owned slice leaves the stored vector there. -/
theorem store_slice {Q : α → sProp 𝕄} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} (X : r.shape.Idx → Elt F e) :
    own c (M.slice r hr) X ⊢ iprop((own c (M.slice r hr) w -∗ runs c (k ⟨⟩) Q) -∗ runs c (.op (.store M r w Finset.univ hx hm) k) Q) := by
  unfold own owns
  iintro ⟨%f, %hf, H⟩ Hk
  iapply (wp_store 𝒱₀ (c : Thread nD τ) none Set.univ (m := M) (r := r) (w := w) (Mk := Finset.univ) (S := (M.slice r hr).view.set) (f := f)
    (Finset.Subset.refl _)) $$ [H]
  · iexact H
  iintro H
  iapply Hk
  iexists ((M.access r).write (Elt F) f w Finset.univ)
  isplitr
  · ipureintro; exact View.read_write_univ _ _
  · iexact H

end Slice

/-! ## A chunk of an exchange buffer, as a matrix and as the slice it is -/

section Buf

variable (c : Dev nD) (M : Memref sig .tc .vmem S2x256x1024 .bf16) (t j : Fin 2)

theorem buf_eq (X : Vec F S1x128x1024 .bf16) :
    (own c (M.slice (bufR t j) (fun _ => rfl)) X : sProp 𝕄) ⊢ own c (bufM M t j) (shapeCast S128x1024 X shapeCasts_S1x128x1024_S128x1024) := by
  unfold own owns
  iintro ⟨%f, %hf, H⟩
  iexists f
  isplitr
  · ipureintro; rw [← hf]; rfl
  · rw [show (bufM M t j).view.set = (M.slice (bufR t j) (fun _ => rfl)).view.set from View.set_reshape _ _]
    iexact H

theorem buf_eq' (X : Vec F S128x1024 .bf16) :
    (own c (bufM M t j) X : sProp 𝕄) ⊢ own c (M.slice (bufR t j) (fun _ => rfl)) (shapeCast S1x128x1024 X shapeCasts_S128x1024_S1x128x1024) := by
  unfold own owns
  iintro ⟨%f, %hf, H⟩
  iexists f
  isplitr
  · ipureintro
    rw [← hf]
    exact (shapeCast_shapeCast (M.view.readAt (Elt F) (bufR t j).toLoadRect f) shapeCasts_S1x128x1024_S128x1024 shapeCasts_S128x1024_S1x128x1024).symm
  · rw [show (bufM M t j).view.set = (M.slice (bufR t j) (fun _ => rfl)).view.set from View.set_reshape _ _]
    iexact H

/-- A load of a chunk of an exchange buffer yields its contents (with a leading axis of one). -/
theorem load_buf {α : Type} {Q : α → sProp 𝕄} {off : Fin 3 → ℕ} {hb} {hl : M.view.LoadsAt (Rect.unit (s := S2x256x1024) off S1x128x1024.size hb).toLoadRect}
    {k : (S1x128x1024.Idx → Elt F .bf16) → Prog (TpuEff nD τ sig (Elt F) Λ₀ .tc) α} (X : Vec F S128x1024 .bf16) (h : off = ![t.val, 128 * j.val, 0]) :
    own c (bufM M t j) X ⊢ iprop((own c (bufM M t j) X -∗ runs c (k (shapeCast S1x128x1024 X shapeCasts_S128x1024_S1x128x1024)) Q)
      -∗ runs c (.op (.load M (Rect.unit (s := S2x256x1024) off S1x128x1024.size hb).toLoadRect hl) k) Q) := by
  subst h
  iintro H Hk
  ihave H := buf_eq' c M t j X $$ H
  iapply (load_slice c M (bufR t j) (fun _ => rfl)) $$ [H]
  · iexact H
  iintro H
  ihave H := buf_eq c M t j _ $$ H
  rw [shapeCast_shapeCast]
  iapply Hk
  iexact H

/-- A store to a chunk of an exchange buffer leaves the stored matrix there. -/
theorem store_buf {α : Type} {Q : α → sProp 𝕄} {off : Fin 3 → ℕ} {hb} {w : Vec F S1x128x1024 .bf16}
    {hx : (M.access (Rect.unit (s := S2x256x1024) off S1x128x1024.size hb)).Stores Finset.univ} {hm}
    {k : PUnit → Prog (TpuEff nD τ sig (Elt F) Λ₀ .tc) α} (X : Vec F S128x1024 .bf16) (h : off = ![t.val, 128 * j.val, 0]) :
    own c (bufM M t j) X ⊢ iprop((own c (bufM M t j) (shapeCast S128x1024 w shapeCasts_S1x128x1024_S128x1024) -∗ runs c (k ⟨⟩) Q)
      -∗ runs c (.op (.store M (Rect.unit (s := S2x256x1024) off S1x128x1024.size hb) w Finset.univ hx hm) k) Q) := by
  subst h
  iintro H Hk
  ihave H := buf_eq' c M t j X $$ H
  iapply (store_slice c M (bufR t j) (fun _ => rfl)) $$ [H]
  · iexact H
  iintro H
  iapply Hk
  iapply (buf_eq c M t j _)
  iexact H

end Buf

/-! ## Chunks of the result buffer -/

section Out

variable (c : Dev nD) (t h j : Fin 2)

theorem load_out {α : Type} {Q : α → sProp 𝕄} {off : Fin 2 → ℕ} {hb} {hl : oM.view.LoadsAt (Rect.unit (s := S1024x1024) off S128x1024.size hb).toLoadRect}
    {k : (S128x1024.Idx → Elt F .bf16) → Prog (TpuEff nD τ sig (Elt F) Λ₀ .tc) α} (X : Vec F S128x1024 .bf16) (e : off = ![512 * t.val + 256 * h.val + 128 * j.val, 0]) :
    own c (outM t h j) X ⊢ iprop((own c (outM t h j) X -∗ runs c (k X) Q)
      -∗ runs c (.op (.load oM (Rect.unit (s := S1024x1024) off S128x1024.size hb).toLoadRect hl) k) Q) := by
  subst e
  exact load_slice c oM (rowR t h j) (fun _ => rfl) X

theorem store_out {α : Type} {Q : α → sProp 𝕄} {off : Fin 2 → ℕ} {hb} {w : Vec F S128x1024 .bf16}
    {hx : (oM.access (Rect.unit (s := S1024x1024) off S128x1024.size hb)).Stores Finset.univ} {hm}
    {k : PUnit → Prog (TpuEff nD τ sig (Elt F) Λ₀ .tc) α} (X : Vec F S128x1024 .bf16) (e : off = ![512 * t.val + 256 * h.val + 128 * j.val, 0]) :
    own c (outM t h j) X ⊢ iprop((own c (outM t h j) w -∗ runs c (k ⟨⟩) Q)
      -∗ runs c (.op (.store oM (Rect.unit (s := S1024x1024) off S128x1024.size hb) w Finset.univ hx hm) k) Q) := by
  subst e
  exact store_slice c oM (rowR t h j) (fun _ => rfl) X

end Out

/-! ## Loads and stores inside an owned memref -/

section In

variable {s : Shape} {e : EltTy} {α : Type} (c : Dev nD) (M : Memref sig .tc .vmem s e) (r : Rect s)

theorem load_in {Q : α → sProp 𝕄} {hl : M.view.LoadsAt r.toLoadRect} {k : (r.shape.Idx → Elt F e) → Prog (TpuEff nD τ sig (Elt F) Λ₀ .tc) α} (X : s.Idx → Elt F e) :
    own c M X ⊢ iprop((own c M X -∗ runs c (k (fun x => X (r.emb x))) Q) -∗ runs c (.op (.load M r.toLoadRect hl) k) Q) := by
  unfold own owns
  iintro ⟨%f, %hf, H⟩ Hk
  subst hf
  iapply (wp_load_rect 𝒱₀ (c : Thread nD τ) none Set.univ (m := M) (r := r) (S := M.view.set) (q := fullShare) (f := f)
    (View.set_slice_subset _ _)) $$ [H]
  · iexact H
  iintro H
  iapply Hk
  iexists f
  isplitr
  · ipureintro; rfl
  · iexact H

theorem store_in {Q : α → sProp 𝕄} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} (X : s.Idx → Elt F e) :
    own c M X ⊢ iprop((own c M (r.overlay X w) -∗ runs c (k ⟨⟩) Q) -∗ runs c (.op (.store M r w Finset.univ hx hm) k) Q) := by
  unfold own owns
  iintro ⟨%f, %hf, H⟩ Hk
  iapply (wp_store 𝒱₀ (c : Thread nD τ) none Set.univ (m := M) (r := r) (w := w) (Mk := Finset.univ) (S := M.view.set) (f := f)
    (View.set_slice_subset _ _)) $$ [H]
  · iexact H
  iintro H
  iapply Hk
  iexists ((M.access r).write (Elt F) f w Finset.univ)
  isplitr
  · ipureintro
    funext y
    by_cases hy : y ∈ r.set
    · rw [← Rect.map_emb_univ, Finset.mem_map] at hy
      obtain ⟨x, -, rfl⟩ := hy
      rw [View.read_slice_write_emb _ _ _ (Finset.mem_univ x), Rect.overlay_emb]
    · rw [View.read_slice_write_of_not_mem _ _ _ _ (by rwa [Rect.map_emb_univ]), Rect.overlay_of_not_mem _ _ _ hy, hf]
  · iexact H

/-- The rectangle at offset zero of the whole size selects the index itself. -/
theorem emb_unit_zero {off : Fin s.rank → ℕ} (hz : off = fun _ => 0) {hb} (x : s.Idx) : (Rect.unit (s := s) off s.size hb).emb x = x := by
  subst hz
  funext a
  exact Fin.ext (by rw [Rect.emb_apply]; show 0 + 1 * (x a : ℕ) = _; omega)

theorem load_all {Q : α → sProp 𝕄} {off : Fin s.rank → ℕ} (hz : off = fun _ => 0) {hb} {hl : M.view.LoadsAt (Rect.unit (s := s) off s.size hb).toLoadRect}
    {k : (s.Idx → Elt F e) → Prog (TpuEff nD τ sig (Elt F) Λ₀ .tc) α} (X : s.Idx → Elt F e) :
    own c M X ⊢ iprop((own c M X -∗ runs c (k X) Q) -∗ runs c (.op (.load M (Rect.unit (s := s) off s.size hb).toLoadRect hl) k) Q) := by
  have h := load_in (Q := Q) c M (Rect.unit (s := s) off s.size hb) (hl := hl) (k := k) X
  rwa [show (fun x => X ((Rect.unit (s := s) off s.size hb).emb x)) = X from funext fun x => congrArg X (emb_unit_zero hz x)] at h

theorem store_all {Q : α → sProp 𝕄} {off : Fin s.rank → ℕ} (hz : off = fun _ => 0) {hb} {w : s.Idx → Elt F e}
    {hx : (M.access (Rect.unit (s := s) off s.size hb)).Stores Finset.univ} {hm}
    {k : PUnit → Prog (TpuEff nD τ sig (Elt F) Λ₀ .tc) α} (X : s.Idx → Elt F e) :
    own c M X ⊢ iprop((own c M w -∗ runs c (k ⟨⟩) Q) -∗ runs c (.op (.store M (Rect.unit (s := s) off s.size hb) w Finset.univ hx hm) k) Q) := by
  have h := store_in (Q := Q) c M (Rect.unit (s := s) off s.size hb) (w := w) (hx := hx) (hm := hm) (k := k) X
  rwa [show (Rect.unit (s := s) off s.size hb).overlay X w = w from funext fun x => by
    conv_lhs => rw [← emb_unit_zero hz (hb := hb) x]
    rw [Rect.overlay_emb]] at h

end In

end Cert.Butterfly

end
-- ==== Proof.Protocol.lean ====
/-
The exchange protocol: what every semaphore cell hands over, the order in which waits are allowed, and the two lemmas
the body uses — sending a chunk, and waiting for one.

`X i c` is the matrix that device `c` sends in transfer `i`; the protocol is the same for any such family. A device's
barrier cell is paid once by each partner, with the places on that partner that later transfers write. A send cell
gives the sender its source back; a receive cell gives the receiver the chunk that landed.
-/
module

public import proofs.«01_k».proof.Proof.Chunks

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One member of a finite family of resources -/

theorem take_out {ι : Type} [DecidableEq ι] {s : Finset ι} {i : ι} (h : i ∈ s) {Φ : ι → sProp 𝕄} :
    bigSep s Φ = iprop(Φ i ∗ bigSep (s.erase i) Φ) := bigSep_erase h
theorem put_in {ι : Type} [DecidableEq ι] {s : Finset ι} {i : ι} (h : i ∉ s) {Φ : ι → sProp 𝕄} :
    bigSep (insert i s) Φ = iprop(Φ i ∗ bigSep s Φ) := bigSep_insert h
theorem all_at {ι : Type} [DecidableEq ι] {s : Finset ι} {i : ι} (h : i ∈ s) {Φ : ι → sProp 𝕄} : (bigSep s Φ : sProp 𝕄) ⊢ Φ i := by
  rw [take_out h]; iintro ⟨H, -⟩; iexact H

/-! ## The cells of a device, numbered: the barrier, the send cells, the receive cells -/

/-- The kernel's own 24 semaphores. -/
abbrev osem : Fin 24 → SemLoc sig := fun k => .dma ⟨3 + k.val, by revert k; decide⟩
def csem (k : Fin 25) : SemLoc sig := if k = 0 then .reg barS else .dma ⟨2 + k.val, by revert k; decide⟩
def kcell (ck : Dev nD × Fin 25) : GSem nD τ sig := ((ck.1 : Thread nD τ), csem ck.2)

def barK : Fin 25 := 0
def sendK (i : Fin 12) : Fin 25 := ⟨1 + i.val, by omega⟩
def recvK (i : Fin 12) : Fin 25 := ⟨13 + i.val, by omega⟩

theorem kcell_bar (c : Dev nD) : kcell (c, barK) = barCell c := rfl
theorem kcell_send (i : Fin 12) (c : Dev nD) : kcell (c, sendK i) = sendCell i c :=
  congrArg (Prod.mk (c : Thread nD τ)) (by show csem (sendK i) = .dma (sendS i); revert i; decide)
theorem kcell_recv (i : Fin 12) (c : Dev nD) : kcell (c, recvK i) = recvCell i c :=
  congrArg (Prod.mk (c : Thread nD τ)) (by show csem (recvK i) = .dma (recvS i); revert i; decide)

/-! ## What the cells hand over -/

section Schedule

variable (X : Fin 12 → Dev nD → Vec F S128x1024 .bf16)

/-- The place on the partner that transfer `i` of device `c` writes, with some contents. -/
def slot (i : Fin 12) (c : Dev nD) : sProp 𝕄 := iprop(∃ Y, own (F := F) (peer i c) (dstM i c) Y)
/-- What a partner's signal gives device `c`: the places there that `c` writes (`false`: on `pA c`, `true`: on `pB c`). -/
def barPay (d : Bool) (c : Dev nD) : sProp 𝕄 := bigSep (Finset.univ.filter fun i => ¬ (toA i = d)) fun i => slot (F := F) i c
def sendPay (i : Fin 12) (c : Dev nD) : sProp 𝕄 := own c (srcM i c) (X i c)
def recvPay (i : Fin 12) (c : Dev nD) : sProp 𝕄 := own c (dstM i (peer i c)) (X i (peer i c))

/-- The transfer whose send or receive semaphore number `q` is. -/
def xferOf (q : DmaSem sig) : Fin 12 := ⟨(q.val + 9) % 12, Nat.mod_lt _ (by decide)⟩

theorem xferOf_send (i : Fin 12) : xferOf (sendS i) = i := by revert i; decide
theorem xferOf_recv (i : Fin 12) : xferOf (recvS i) = i := by revert i; decide

/-- What the semaphore `sm` of device `c` hands over for duty `d`. -/
def pay (c : Dev nD) (sm : SemLoc sig) (d : Bool) : sProp 𝕄 :=
  match sm with
  | .reg _ => barPay (F := F) d c
  | .dma q => if 15 ≤ q.val then recvPay X (xferOf q) c else sendPay X (xferOf q) c

/-- The duties of the semaphore `sm`: both partners' on the barrier, one transfer's on a send or receive semaphore. -/
def duty (sm : SemLoc sig) : Finset Bool :=
  match sm with
  | .reg s => if s = barS then Finset.univ else ∅
  | .dma q => if 3 ≤ q.val then {false} else ∅

/-- The units one duty of the semaphore counts. -/
def units (sm : SemLoc sig) : ℕ :=
  match sm with
  | .reg _ => 1
  | .dma _ => N

/-- One round: the barrier cell counts one unit from each partner, a send or receive cell one chunk. -/
def Rd : Rounds.Schedule (GSem nD τ sig) Bool 𝕄 where
  duties g r := if r = 0 ∧ g.1.2 = .tc then duty g.2 else ∅
  unitless _ := False
  amount g _ _ := units g.2
  payload g _ d := pay X g.1.1 g.2 d
  amount_pos g _ _ _ := by
    show 0 < units g.2
    cases g.2 with
    | reg s => exact Nat.one_pos
    | dma q => exact N_pos

instance pay_storable (g : GSem nD τ sig) (r : ℕ) (d : Bool) : BI.Storable (upEmb : UEmb _ 𝕄) ((Rd X).payload g r d) := by
  show BI.Storable upEmb (pay X g.1.1 g.2 d)
  unfold pay barPay recvPay sendPay slot
  (repeat' split) <;> infer_instance

theorem duties_bar (c : Dev nD) : (Rd X).duties (barCell c) 0 = Finset.univ := by
  dsimp only [Rd]; rw [if_pos ⟨rfl, rfl⟩]; rfl
theorem duties_send (i : Fin 12) (c : Dev nD) : (Rd X).duties (sendCell i c) 0 = {false} := by
  dsimp only [Rd]; rw [if_pos ⟨rfl, rfl⟩]; exact if_pos (show 3 ≤ 3 + i.val by omega)
theorem duties_recv (i : Fin 12) (c : Dev nD) : (Rd X).duties (recvCell i c) 0 = {false} := by
  dsimp only [Rd]; rw [if_pos ⟨rfl, rfl⟩]; exact if_pos (show 3 ≤ 15 + i.val by omega)
theorem duties_later (g : GSem nD τ sig) (r : ℕ) (hr : 1 ≤ r) : (Rd X).duties g r = ∅ := if_neg fun h => by omega

theorem expect_bar (c : Dev nD) : (Rd X).expect (barCell c) 0 = 2 := by
  unfold Schedule.expect Schedule.amountOf; rw [duties_bar]; rfl
theorem expect_send (i : Fin 12) (c : Dev nD) : (Rd X).expect (sendCell i c) 0 = N := by
  unfold Schedule.expect Schedule.amountOf; rw [duties_send, Finset.sum_singleton]; rfl
theorem expect_recv (i : Fin 12) (c : Dev nD) : (Rd X).expect (recvCell i c) 0 = N := by
  unfold Schedule.expect Schedule.amountOf; rw [duties_recv, Finset.sum_singleton]; rfl

theorem payload_bar (c : Dev nD) (d : Bool) : (Rd X).payload (barCell c) 0 d = barPay (F := F) d c := rfl
theorem payload_send (i : Fin 12) (c : Dev nD) (d : Bool) : (Rd X).payload (sendCell i c) 0 d = sendPay X i c :=
  (if_neg (show ¬ 15 ≤ 3 + i.val by omega)).trans (by rw [xferOf_send])
theorem payload_recv (i : Fin 12) (c : Dev nD) (d : Bool) : (Rd X).payload (recvCell i c) 0 d = recvPay X i c :=
  (if_pos (Nat.le_add_right 15 i.val)).trans (by rw [xferOf_recv])

/-- Both partners' payments together: every place device `c` will write. -/
theorem rest_bar (c : Dev nD) : bigSep ((Rd X).duties (barCell c) 0 \ ∅) (fun d => (Rd X).payload (barCell c) 0 d)
    = (bigSep Finset.univ fun i => slot (F := F) i c : sProp 𝕄) := by
  rw [Finset.sdiff_empty, duties_bar, bigSep_univ_eq_bigSepL [true, false] (by decide) (by decide), bigSepL_cons_cons, bigSepL_singleton,
    bigSep_filter_split Finset.univ fun i => toA i = false]
  have e : (Finset.univ.filter fun i : Fin 12 => ¬ (toA i = true)) = Finset.univ.filter fun i => toA i = false := by decide
  show iprop(bigSep (Finset.univ.filter fun i : Fin 12 => ¬ (toA i = true)) (fun i => slot (F := F) i c) ∗ barPay (F := F) false c) = _
  rw [e]; rfl
theorem rest_send (i : Fin 12) (c : Dev nD) : bigSep ((Rd X).duties (sendCell i c) 0 \ ∅) (fun d => (Rd X).payload (sendCell i c) 0 d) = sendPay X i c := by
  rw [Finset.sdiff_empty, duties_send, bigSep_singleton, payload_send]
theorem rest_recv (i : Fin 12) (c : Dev nD) : bigSep ((Rd X).duties (recvCell i c) 0 \ ∅) (fun d => (Rd X).payload (recvCell i c) 0 d) = recvPay X i c := by
  rw [Finset.sdiff_empty, duties_recv, bigSep_singleton, payload_recv]

end Schedule

/-! ## The order of waits -/

def L (g : GSem nD τ sig) : Finset Unit := if g.1.2 = .tc then {()} else ∅
/-- The level of a cell: 1 for a barrier, `2 + i` for the receive cell of transfer `i`, 0 for every other. -/
def lv (g : GSem nD τ sig) (_ : Unit) : ℕ :=
  match g.2 with
  | .reg s => if s = barS then 1 else 0
  | .dma q => if 15 ≤ q.val then q.val - 13 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (i : Fin 12) (c : Dev nD) (u : Unit) : lv (recvCell i c) u = 2 + i.val :=
  (if_pos (Nat.le_add_right 15 i.val)).trans (show 15 + i.val - 13 = 2 + i.val by omega)
theorem lv_low (c : Dev nD) (q : DmaSem sig) (hq : q.val < 15) (u : Unit) : lv ((c : Thread nD τ), .dma q) u = 0 :=
  if_neg (show ¬ 15 ≤ q.val by omega)

/-- What device `c` owes its partners' receive cells for the transfers `P`. -/
def dues (c : Dev nD) (P : Finset (Fin 12)) : CellTallies nD τ sig Unit := ∑ k ∈ P, tallyAt (recvCell k (peer k c)) () N
/-- What it owes at launch: all the transfers and a unit to each partner's barrier. -/
def O₁ (c : Dev nD) : CellTallies nD τ sig Unit := dues c Finset.univ + tallyAt (barCell (pB c)) () 1
def O₀ (c : Dev nD) : CellTallies nD τ sig Unit := O₁ c + tallyAt (barCell (pA c)) () 1

theorem dues_apply (c : Dev nD) (P : Finset (Fin 12)) (g : GSem nD τ sig) (u : Unit) :
    dues c P g u = ∑ k ∈ P, if g = recvCell k (peer k c) ∧ u = () then N else 0 := by
  unfold dues
  rw [Finset.sum_apply, Finsupp.finsetSum_apply]
  exact Finset.sum_congr rfl fun k _ => tallyAt_apply _ _ _ _ _

theorem dues_pos {c : Dev nD} {P : Finset (Fin 12)} {g : GSem nD τ sig} {u : Unit} (h : 0 < dues c P g u) : ∃ k ∈ P, g = recvCell k (peer k c) := by
  rw [dues_apply] at h
  by_contra hn
  rw [Finset.sum_eq_zero fun k hk => if_neg fun h' => hn ⟨k, hk, h'.1⟩] at h
  exact Nat.lt_irrefl 0 h

theorem tally_pos {g' g : GSem nD τ sig} {n : ℕ} {u : Unit} (h : 0 < tallyAt g' () n g u) : g = g' := by
  rw [tallyAt_apply] at h
  by_contra hn
  rw [if_neg fun h' => hn h'.1] at h
  exact Nat.lt_irrefl 0 h

theorem some_pos {x y z : ℕ} (h : 0 < x + y + z) : 0 < x ∨ 0 < y ∨ 0 < z := by omega

theorem O₀_pos {c : Dev nD} {g : GSem nD τ sig} {u : Unit} (h : 0 < O₀ c g u) :
    (∃ k, g = recvCell k (peer k c)) ∨ g = barCell (pB c) ∨ g = barCell (pA c) :=
  (some_pos (x := dues c Finset.univ g u) (y := tallyAt (barCell (pB c)) () 1 g u) (z := tallyAt (barCell (pA c)) () 1 g u) h).imp
    (fun h => (dues_pos h).imp fun _ hk => hk.2) (Or.imp tally_pos tally_pos)

theorem mem_L_tc (c : Dev nD) (sm : SemLoc sig) (u : Unit) : u ∈ L ((c : Thread nD τ), sm) := by rw [L_tc]; exact Finset.mem_singleton_self _

/-- A device may wait on a cell of a level below those of the transfers it still owes. -/
theorem mayWait_dues (c : Dev nD) (sm : SemLoc sig) (P : Finset (Fin 12)) (n : ℕ) (hsm : lv ((c : Thread nD τ), sm) () ≤ n) (hP : ∀ k ∈ P, n < 2 + k.val) :
    (levAts L lv : sProp 𝕄) ⊢ MayWait (c : Thread nD τ) sm () (dues c P) :=
  MayOwe.of_cut (L := L) (lev := lv) n (fun p hp => by rw [Finset.mem_singleton.mp hp]; exact mem_L_tc c sm ())
    (fun g u hg => by obtain ⟨k, hk, rfl⟩ := dues_pos hg; exact mem_L_tc _ _ _)
    (fun p hp => by rw [Finset.mem_singleton.mp hp]; exact hsm)
    (fun g u hg => by obtain ⟨k, hk, rfl⟩ := dues_pos hg; rw [lv_recv]; exact hP k hk)

/-- A device may wait on a staging semaphore at any time. -/
theorem mayWait_stage (c : Dev nD) (q : DmaSem sig) (hq : q.val < 15) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L_tc c _ ())
      (fun g u hg => by rcases O₀_pos hg with ⟨k, rfl⟩ | rfl | rfl <;> exact mem_L_tc _ _ _)
      (fun p hp => by rw [Finset.mem_singleton.mp hp]; exact (lv_low c q hq ()).le)
      (fun g u hg => by
        rcases O₀_pos hg with ⟨k, rfl⟩ | rfl | rfl
        · rw [lv_recv]; omega
        · rw [lv_bar]; decide
        · rw [lv_bar]; decide)
  · rw [MayWait_zero]; iintro -; iempintro

/-! ## The facts every device holds, and what one device holds of the exchange -/

section Talk

variable (X : Fin 12 → Dev nD → Vec F S128x1024 .bf16) (K : Dev nD × Fin 25 → ℕ)

/-- All the cells' invariants, all cells at round 0, and the levels. -/
def ctx : sProp 𝕄 :=
  iprop((bigSep Finset.univ fun ck : Dev nD × Fin 25 => iprop(cellInv ER (Rd X) (K ck) (kcell ck) ∗ reached ER (kcell ck) 0)) ∗ levAts L lv)

instance ctx_persistent : BI.Persistent (ctx X K) := by unfold ctx; infer_instance

theorem ctx_at (ck : Dev nD × Fin 25) : ctx X K ⊢ iprop(cellInv ER (Rd X) (K ck) (kcell ck) ∗ reached ER (kcell ck) 0) := by
  unfold ctx
  iintro ⟨H, -⟩
  ihave H := (all_at (Φ := fun ck : Dev nD × Fin 25 => iprop(cellInv ER (Rd X) (K ck) (kcell ck) ∗ reached ER (kcell ck) 0)) (Finset.mem_univ ck)) $$ H
  iexact H

theorem ctx_bar (c : Dev nD) : ctx X K ⊢ iprop(cellInv ER (Rd X) (K (c, barK)) (barCell c) ∗ reached ER (barCell c) 0) := ctx_at X K (c, barK)
theorem ctx_send (i : Fin 12) (c : Dev nD) : ctx X K ⊢ iprop(cellInv ER (Rd X) (K (c, sendK i)) (sendCell i c) ∗ reached ER (sendCell i c) 0) := by
  have h := ctx_at X K (c, sendK i); rwa [kcell_send] at h
theorem ctx_recv (i : Fin 12) (c : Dev nD) : ctx X K ⊢ iprop(cellInv ER (Rd X) (K (c, recvK i)) (recvCell i c) ∗ reached ER (recvCell i c) 0) := by
  have h := ctx_at X K (c, recvK i); rwa [kcell_recv] at h
theorem ctx_lev : ctx X K ⊢ (levAts L lv : sProp 𝕄) := by unfold ctx; iintro ⟨-, H⟩; iexact H

/-- What a transfer still to be sent needs: the two duties and the place it writes. -/
def ticket (c : Dev nD) (k : Fin 12) : sProp 𝕄 :=
  iprop(dutyTok ER (sendCell k c) 0 false ∗ dutyTok ER (recvCell k (peer k c)) 0 false ∗ slot (F := F) k c)

/-- Device `c`'s part of the exchange, with the transfers `P` still to be sent, the send semaphores `S` and the receive
    semaphores `R` still to be waited on. -/
def talk (c : Dev nD) (P S R : Finset (Fin 12)) : sProp 𝕄 :=
  iprop((∃ W, owes (c : Thread nD τ) (dues c P) W)
    ∗ bigSep P (fun k => ticket (F := F) c k)
    ∗ bigSep (S \ P) (fun k => cred (tallyAt (sendCell k c) () N))
    ∗ bigSep S (fun k => atPos ER (sendCell k c) 0 ∅ 0)
    ∗ bigSep R (fun k => iprop(atPos ER (recvCell k c) 0 ∅ 0 ∗ cred (tallyAt (recvCell k c) () N)))
    ∗ bigSep (Finset.univ \ S) (fun k => semVal (sendCell k c) 0)
    ∗ bigSep (Finset.univ \ R) (fun k => semVal (recvCell k c) 0))

theorem dues_erase (c : Dev nD) {P : Finset (Fin 12)} {i : Fin 12} (hi : i ∈ P) : dues c P = dues c (P.erase i) + tallyAt (recvCell i (peer i c)) () N := by
  unfold dues; exact (Finset.sum_erase_add P _ hi).symm

theorem sdiff_erase {P S : Finset (Fin 12)} {i : Fin 12} (hi : i ∈ P) (hS : i ∈ S) : S \ P.erase i = insert i (S \ P) := by
  ext k
  simp only [Finset.mem_sdiff, Finset.mem_erase, Finset.mem_insert, not_and]
  by_cases h : k = i
  · subst h; simp [hS]
  · simp [h]

theorem univ_sdiff_erase {R : Finset (Fin 12)} {i : Fin 12} (hi : i ∈ R) : Finset.univ \ R.erase i = insert i (Finset.univ \ R) :=
  sdiff_erase hi (Finset.mem_univ i)

/-- Sending the chunk of transfer `i`: its source goes, and the send semaphore can be waited on. -/
theorem talk_send {P S R : Finset (Fin 12)} (c : Dev nD) (i : Fin 12) (hi : i ∈ P) (hS : i ∈ S)
    {src dst : Memref sig .tc .vmem S128x1024 .bf16} {n : Dev nD} {qs qr : DmaSem sig}
    (hn : n = peer i c) (hsrc : src = srcM i c) (hdst : dst = dstM i c) (hqs : qs = sendS i) (hqr : qr = recvS i)
    {α : Type} {Q : α → sProp 𝕄} {k : PUnit → Prog (TpuEff nD τ sig (Elt F) Λ₀ .tc) α}
    {hsc : (dst : Memref sig (Dev.tc n : Thread nD τ).2.kind .vmem S128x1024 .bf16).view.ref.isScScratch = false}
    {h₁ : src.view.WordExact} {h₂ : dst.view.WordExact}
    {hsem : DmaTarget.Typed .vmem (.dma qr) (.remote (Dev.tc n : Thread nD τ) (dst : Memref sig (Dev.tc n : Thread nD τ).2.kind .vmem S128x1024 .bf16) (.dma qs) hsc)} :
    iprop(ctx X K ∗ own c (srcM i c) (X i c) ∗ talk (F := F) c P S R)
      ⊢ iprop((talk (F := F) c (P.erase i) S R -∗ runs c (k ⟨⟩) Q)
        -∗ runs c (.op (.enqueueDma src (.remote (Dev.tc n : Thread nD τ) dst (.dma qs) hsc) (.dma qr) h₁ h₂ hsem) k) Q) := by
  subst hn hqs hqr hsrc hdst
  unfold talk
  rw [take_out hi, dues_erase c hi, sdiff_erase hi hS, put_in (by simp [hi])]
  iintro ⟨#Hctx, Hsrc, ⟨%W, HO⟩, ⟨Ht, HP⟩, Hc, Hrest⟩ Hk
  unfold ticket slot own owns
  icases Ht with ⟨Ht1, Ht2, ⟨%Y, %fd, %hfd, Hdst⟩⟩
  icases Hsrc with ⟨%fs, %hfs, Hsrc⟩
  ihave #H1 := (ctx_send X K i c) $$ Hctx
  ihave #H2 := (ctx_recv X K i (peer i c)) $$ Hctx
  icases H1 with ⟨Hi1, Hr1⟩
  icases H2 with ⟨Hi2, Hr2⟩
  iapply (Rounds.wp_send_pointsTo 𝒱₀ ER (Rd X) (c : Thread nD τ) none (κ₁ := K (c, sendK i)) (κ₂ := K (peer i c, recvK i))
    (r₁ := 0) (r₂ := 0) (d₁ := false) (d₂ := false) (fs := fs) (fd := fd) (q := fullShare)
    (by rw [duties_send]; exact Finset.mem_singleton_self _) (by rw [duties_recv]; exact Finset.mem_singleton_self _)
    () () N (amount_dst i c _) rfl rfl (dues c (P.erase i)) rfl (W := W)
    (by
      rw [payload_send]; unfold sendPay own owns
      iintro H; iexists fs; isplitr; · ipureintro; exact hfs
      iexact H)
    (by
      rw [payload_recv]; unfold recvPay own owns; rw [peer_peer]
      iintro H; iexists (View.write (Elt F) (dstM i c).view fd (View.read (Elt F) (srcM i c).view fs) Finset.univ); isplitr
      · ipureintro; exact (View.read_write_univ _ _).trans hfs
      iexact H)) $$ [HO Ht1 Ht2 Hsrc Hdst]
  · isplitr; · iexact Hi1
    isplitr; · iexact Hi2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hcs, HO⟩
  iapply Hk
  isplitl [HO]; · iexists W; iexact HO
  isplitl [HP]; · iexact HP
  isplitl [Hc Hcs]
  · isplitl [Hcs]; · iexact Hcs
    iexact Hc
  iexact Hrest

/-- Waiting on the send semaphore of transfer `i` gives its source back. -/
theorem talk_wait_send {P S R : Finset (Fin 12)} (c : Dev nD) (i : Fin 12) (hi : i ∈ S) (hP : i ∉ P)
    {src dst : Memref sig .tc .vmem S128x1024 .bf16} {q : DmaSem sig} (hq : q = sendS i) (hN : dst.view.dmaCredit = N)
    {α : Type} {Q : α → sProp 𝕄} {k : PUnit → Prog (TpuEff nD τ sig (Elt F) Λ₀ .tc) α} {h₁ : src.view.WordExact} {h₂ : dst.view.WordExact} :
    iprop(ctx X K ∗ talk (F := F) c P S R)
      ⊢ iprop((iprop(own c (srcM i c) (X i c) ∗ talk (F := F) c P (S.erase i) R) -∗ runs c (k ⟨⟩) Q)
        -∗ runs c (.op (.waitDma2 q src dst h₁ h₂) k) Q) := by
  subst hq
  unfold talk
  have hi' : i ∈ S \ P := Finset.mem_sdiff.mpr ⟨hi, hP⟩
  rw [take_out hi', take_out hi, univ_sdiff_erase hi, put_in (by simp [hi]), ← Finset.erase_sdiff_comm]
  iintro ⟨#Hctx, ⟨%W, HO⟩, HP, ⟨Hc, Hcs⟩, ⟨Hat, Hats⟩, HR, HvS, HvR⟩ Hk
  ihave #H1 := (ctx_send X K i c) $$ Hctx
  icases H1 with ⟨Hi1, Hr1⟩
  ihave #Hlev := (ctx_lev X K) $$ Hctx
  iapply (Rounds.wp_wait_rest_token 𝒱₀ ER (Rd X) (c : Thread nD τ) none (κ := K (c, sendK i))
      (wpE_waitDma2_eq 𝒱₀ (c : Thread nD τ) none Set.univ) (Set.mem_univ _) () (O := dues c P) (W := W) (R := 0) (m := 0) (T := ∅)
      (by rw [Nat.zero_add, expect_send, hN])) $$ [Hc HO Hat]
  · isplitr; · iexact Hi1
    isplitl [Hc]; · rw [hN]; iexact Hc
    isplitl [HO]; · iexact HO
    isplitr
    · iapply (mayWait_dues c (.dma (sendS i)) P 0 (lv_low c (sendS i) (show 3 + i.val < 15 by omega) ()).le (fun k _ => by omega)); iexact Hlev
    iexact Hat
  iintro ⟨HO, Hat, -, Hpay⟩
  ihave Hpay := (Entails.of_eq (rest_send X i c)) $$ Hpay
  imod (Rounds.cell_close ER (Rd X) (Set.mem_univ (K (c, sendK i))) (fun h => h) (R := 0 + 1) (duties_later X (sendCell i c))) $$ [Hat] with Hz
  · isplitr; · iexact Hi1
    iexact Hat
  iapply Hk
  isplitl [Hpay]; · unfold sendPay; iexact Hpay
  isplitl [HO]; · iexists _; iexact HO
  isplitl [HP]; · iexact HP
  isplitl [Hcs]; · iexact Hcs
  isplitl [Hats]; · iexact Hats
  isplitl [HR]; · iexact HR
  isplitl [HvS Hz]
  · isplitl [Hz]; · iexact Hz
    iexact HvS
  iexact HvR

/-- Waiting on the receive semaphore of transfer `i` gives the chunk the partner sent. -/
theorem talk_wait_recv {P S R : Finset (Fin 12)} (c : Dev nD) (i : Fin 12) (hi : i ∈ R) (hP : ∀ k ∈ P, i < k)
    {src dst : Memref sig .tc .vmem S128x1024 .bf16} {q : DmaSem sig} (hq : q = recvS i) (hN : dst.view.dmaCredit = N)
    {α : Type} {Q : α → sProp 𝕄} {k : PUnit → Prog (TpuEff nD τ sig (Elt F) Λ₀ .tc) α} {h₁ : src.view.WordExact} {h₂ : dst.view.WordExact} :
    iprop(ctx X K ∗ talk (F := F) c P S R)
      ⊢ iprop((iprop(own c (dstM i (peer i c)) (X i (peer i c)) ∗ talk (F := F) c P S (R.erase i)) -∗ runs c (k ⟨⟩) Q)
        -∗ runs c (.op (.waitDma2 q src dst h₁ h₂) k) Q) := by
  subst hq
  unfold talk
  rw [take_out hi, univ_sdiff_erase hi, put_in (by simp [hi])]
  iintro ⟨#Hctx, ⟨%W, HO⟩, HP, Hcs, Hats, ⟨⟨Hat, Hc⟩, HR⟩, HvS, HvR⟩ Hk
  ihave #H1 := (ctx_recv X K i c) $$ Hctx
  icases H1 with ⟨Hi1, Hr1⟩
  ihave #Hlev := (ctx_lev X K) $$ Hctx
  iapply (Rounds.wp_wait_rest_token 𝒱₀ ER (Rd X) (c : Thread nD τ) none (κ := K (c, recvK i))
      (wpE_waitDma2_eq 𝒱₀ (c : Thread nD τ) none Set.univ) (Set.mem_univ _) () (O := dues c P) (W := W) (R := 0) (m := 0) (T := ∅)
      (by rw [Nat.zero_add, expect_recv, hN])) $$ [Hc HO Hat]
  · isplitr; · iexact Hi1
    isplitl [Hc]; · rw [hN]; iexact Hc
    isplitl [HO]; · iexact HO
    isplitr
    · iapply (mayWait_dues c (.dma (recvS i)) P (2 + i.val) (lv_recv i c ()).le (fun k hk => by have := hP k hk; have : i.val < k.val := this; omega)); iexact Hlev
    iexact Hat
  iintro ⟨HO, Hat, -, Hpay⟩
  ihave Hpay := (Entails.of_eq (rest_recv X i c)) $$ Hpay
  imod (Rounds.cell_close ER (Rd X) (Set.mem_univ (K (c, recvK i))) (fun h => h) (R := 0 + 1) (duties_later X (recvCell i c))) $$ [Hat] with Hz
  · isplitr; · iexact Hi1
    iexact Hat
  iapply Hk
  isplitl [Hpay]; · unfold recvPay; iexact Hpay
  isplitl [HO]; · iexists _; iexact HO
  isplitl [HP]; · iexact HP
  isplitl [Hcs]; · iexact Hcs
  isplitl [Hats]; · iexact Hats
  isplitl [HR]; · iexact HR
  isplitl [HvS]; · iexact HvS
  isplitl [Hz]; · iexact Hz
  iexact HvR

end Talk

end Cert.Butterfly

end
-- ==== Proof.Buffers.lean ====
/-
Buffers cut into chunks, and chunks put together again: an exchange buffer into its four chunks, a 1024-row buffer into
the eight chunks of 128 rows, listed by tile, by whether the device keeps that half, and by chunk.
-/
module

public import proofs.«01_k».proof.Proof.Chunks
public import Idealize.ShloMosaic.Lib.Pipeline.ValueKit.Geometry

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every element type has a value. -/
theorem elt_nonempty (e : EltTy) : Nonempty (Elt F e) := inferInstance

/-! ## One function from the parts of a disjoint family -/

section Glue

variable {T : Type} {s : Shape} {β : Type} (r : T → Rect s)

/-- The function holding `Y t` on rectangle `t`, and `b` outside all of them. -/
def glue (b : β) (Y : (t : T) → (r t).shape.Idx → β) : s.Idx → β := fun i =>
  open Classical in if h : ∃ p : (t : T) × (r t).shape.Idx, (r p.1).emb p.2 = i then Y h.choose.1 h.choose.2 else b

theorem glue_emb (hd : ∀ t t', t ≠ t' → Disjoint (r t).set (r t').set) (b : β) (Y : (t : T) → (r t).shape.Idx → β) (t : T) (x : (r t).shape.Idx) :
    glue r b Y ((r t).emb x) = Y t x := by
  have h : ∃ p : (t : T) × (r t).shape.Idx, (r p.1).emb p.2 = (r t).emb x := ⟨⟨t, x⟩, rfl⟩
  unfold glue
  rw [dif_pos h]
  have e := h.choose_spec
  generalize h.choose = p at e
  obtain ⟨t', x'⟩ := p
  have ht : t' = t := by
    by_contra hne
    have h1 : (r t').emb x' ∈ (r t').set := by rw [← Rect.map_emb_univ]; exact Finset.mem_map_of_mem _ (Finset.mem_univ _)
    have h2 : (r t').emb x' ∈ (r t).set := by
      have e' : (r t').emb x' = (r t).emb x := e
      rw [e', ← Rect.map_emb_univ]; exact Finset.mem_map_of_mem _ (Finset.mem_univ _)
    exact Finset.disjoint_left.mp (hd t' t hne) h1 h2
  subst ht
  exact congrArg (Y t') ((r t').emb.injective e)

end Glue

/-! ## An exchange buffer and its four chunks -/

theorem bufR_disjoint (p p' : Fin 2 × Fin 2) (h : p ≠ p') : Disjoint (bufR p.1 p.2).set (bufR p'.1 p'.2).set := by
  by_cases h1 : p.1 = p'.1
  · exact Rect.unit_disjoint 1 (by revert h h1; revert p p'; decide)
  · exact Rect.unit_disjoint 0 (by revert h1; clear h; revert p p'; decide)

theorem bufR_cover : (Finset.univ : Finset (Fin 2 × Fin 2)).biUnion (fun p => (bufR p.1 p.2).set) = Finset.univ := by
  ext i
  simp only [Finset.mem_biUnion, Finset.mem_univ, true_and, iff_true]
  have h0 : (i 0 : ℕ) < 2 := (i 0).isLt
  have h1 : (i 1 : ℕ) < 256 := (i 1).isLt
  have h2 : (i 2 : ℕ) < 1024 := (i 2).isLt
  refine ⟨(⟨i 0, h0⟩, ⟨(i 1 : ℕ) / 128, by omega⟩), Rect.mem_set_unit.mpr fun a => ?_⟩
  fin_cases a
  · show (i 0 : ℕ) ≤ i 0 ∧ (i 0 : ℕ) < (i 0 : ℕ) + 1; omega
  · show 128 * ((i 1 : ℕ) / 128) ≤ (i 1 : ℕ) ∧ (i 1 : ℕ) < 128 * ((i 1 : ℕ) / 128) + 128; omega
  · show 0 ≤ (i 2 : ℕ) ∧ (i 2 : ℕ) < 0 + 1024; omega

theorem four (Φ : Fin 2 × Fin 2 → sProp 𝕄) : bigSep Finset.univ Φ = iprop(Φ (0, 0) ∗ Φ (1, 0) ∗ Φ (0, 1) ∗ Φ (1, 1)) :=
  bigSep_univ_eq_bigSepL [(0, 0), (1, 0), (0, 1), (1, 1)] (by decide) (by decide) Φ

/-- Some contents of chunk `(t, j)` of an exchange buffer. -/
abbrev someBuf (c : Dev nD) (M : Memref sig .tc .vmem S2x256x1024 .bf16) (t j : Fin 2) : sProp 𝕄 := iprop(∃ X, own (F := F) c (bufM M t j) X)

theorem buf_split (c : Dev nD) (M : Memref sig .tc .vmem S2x256x1024 .bf16) (X : Vec F S2x256x1024 .bf16) :
    (own c M X : sProp 𝕄) ⊢ iprop(someBuf (F := F) c M 0 0 ∗ someBuf (F := F) c M 1 0 ∗ someBuf (F := F) c M 0 1 ∗ someBuf (F := F) c M 1 1) := by
  rw [← four fun p => someBuf (F := F) c M p.1 p.2]
  have e (p : Fin 2 × Fin 2) (Y : Vec F S1x128x1024 .bf16) : (own c (M.slice (bufR p.1 p.2) (fun _ => rfl)) Y : sProp 𝕄) ⊢ someBuf (F := F) c M p.1 p.2 := by
    iintro H
    iexists _
    iapply (buf_eq c M p.1 p.2 Y)
    iexact H
  exact (owns_rects (c : Thread nD τ) M fullShare (fun p : Fin 2 × Fin 2 => bufR p.1 p.2) (fun _ _ => rfl) bufR_disjoint bufR_cover X).trans
    (bigSep_mono fun p _ => e p _)

theorem buf_join (c : Dev nD) (M : Memref sig .tc .vmem S2x256x1024 .bf16) (Y : Fin 2 × Fin 2 → Vec F S128x1024 .bf16) :
    (iprop(own c (bufM M 0 0) (Y (0, 0)) ∗ own c (bufM M 1 0) (Y (1, 0)) ∗ own c (bufM M 0 1) (Y (0, 1)) ∗ own c (bufM M 1 1) (Y (1, 1))) : sProp 𝕄)
      ⊢ iprop(∃ X, own (F := F) c M X) := by
  rw [← four fun p => own c (bufM M p.1 p.2) (Y p)]
  have e (p : Fin 2 × Fin 2) : (own c (bufM M p.1 p.2) (Y p) : sProp 𝕄)
      ⊢ owns (c : Thread nD τ) (M.slice (bufR p.1 p.2) (fun _ => rfl)) fullShare (fun x => glue (fun p : Fin 2 × Fin 2 => bufR p.1 p.2)
          (Classical.choice (elt_nonempty (F := F) .bf16)) (fun p => shapeCast S1x128x1024 (Y p) shapeCasts_S128x1024_S1x128x1024) ((bufR p.1 p.2).emb x)) := by
    rw [funext fun x => glue_emb (fun p : Fin 2 × Fin 2 => bufR p.1 p.2) bufR_disjoint (Classical.choice (elt_nonempty (F := F) .bf16))
      (fun p => shapeCast S1x128x1024 (Y p) shapeCasts_S128x1024_S1x128x1024) p x]
    exact buf_eq' c M p.1 p.2 (Y p)
  refine (bigSep_mono fun p _ => e p).trans ((owns_of_rects (c : Thread nD τ) M fullShare (fun p : Fin 2 × Fin 2 => bufR p.1 p.2) (fun _ _ => rfl)
    bufR_disjoint bufR_cover _).trans ?_)
  iintro H
  iexists _
  iexact H

/-! ## A 1024-row buffer and its eight chunks -/

/-- The half that a device keeping half `h` keeps (`s = 0`) or gives away (`s = 1`). -/
def side (s h : Fin 2) : Fin 2 := if s = 0 then h else other h

/-- The rows of chunk `j` of the kept (`s = 0`) or given-away (`s = 1`) half of tile `t`. -/
abbrev famR (c : Dev nD) (p : Fin 2 × Fin 2 × Fin 2) : Rect S1024x1024 := rowR p.1 (side p.2.1 (keep p.1 c)) p.2.2

theorem rowR_disjoint (t h j t' h' j' : Fin 2) (hne : (t, h, j) ≠ (t', h', j')) : Disjoint (rowR t h j).set (rowR t' h' j').set :=
  Rect.unit_disjoint 0 (by revert hne; revert t h j t' h' j'; decide)

theorem famR_disjoint (c : Dev nD) (p p' : Fin 2 × Fin 2 × Fin 2) (h : p ≠ p') : Disjoint (famR c p).set (famR c p').set :=
  rowR_disjoint _ _ _ _ _ _ (by revert h; revert c p p'; decide)

theorem famR_cover (c : Dev nD) : (Finset.univ : Finset (Fin 2 × Fin 2 × Fin 2)).biUnion (fun p => (famR c p).set) = Finset.univ := by
  ext i
  simp only [Finset.mem_biUnion, Finset.mem_univ, true_and, iff_true]
  have h0 : (i 0 : ℕ) < 1024 := (i 0).isLt
  have h1 : (i 1 : ℕ) < 1024 := (i 1).isLt
  have hs : ∀ (t h : Fin 2), ∃ s, side s (keep t c) = h := by revert c; decide
  obtain ⟨s, hs⟩ := hs ⟨(i 0 : ℕ) / 512, by omega⟩ ⟨(i 0 : ℕ) / 256 % 2, by omega⟩
  refine ⟨(⟨(i 0 : ℕ) / 512, by omega⟩, s, ⟨(i 0 : ℕ) / 128 % 2, by omega⟩), ?_⟩
  show i ∈ (rowR _ (side s _) _).set
  rw [hs]
  refine Rect.mem_set_unit.mpr fun a => ?_
  fin_cases a
  · show 512 * ((i 0 : ℕ) / 512) + 256 * ((i 0 : ℕ) / 256 % 2) + 128 * ((i 0 : ℕ) / 128 % 2) ≤ (i 0 : ℕ) ∧
      (i 0 : ℕ) < 512 * ((i 0 : ℕ) / 512) + 256 * ((i 0 : ℕ) / 256 % 2) + 128 * ((i 0 : ℕ) / 128 % 2) + 128
    omega
  · show 0 ≤ (i 1 : ℕ) ∧ (i 1 : ℕ) < 0 + 1024; omega

theorem eight (Φ : Fin 2 × Fin 2 × Fin 2 → sProp 𝕄) : bigSep Finset.univ Φ
    = iprop(Φ (0, 0, 0) ∗ Φ (1, 0, 0) ∗ Φ (0, 0, 1) ∗ Φ (1, 0, 1) ∗ Φ (0, 1, 0) ∗ Φ (1, 1, 0) ∗ Φ (0, 1, 1) ∗ Φ (1, 1, 1)) :=
  bigSep_univ_eq_bigSepL [(0, 0, 0), (1, 0, 0), (0, 0, 1), (1, 0, 1), (0, 1, 0), (1, 1, 0), (0, 1, 1), (1, 1, 1)] (by decide) (by decide) Φ

section Rows

variable {e : EltTy} (c : Dev nD) (M : Memref sig .tc .vmem S1024x1024 e)

theorem rows_split (X : Vec F S1024x1024 e) :
    (own c M X : sProp 𝕄) ⊢ bigSep Finset.univ fun p => own c (M.slice (famR c p) (fun _ => rfl)) (fun x => X ((famR c p).emb x)) :=
  owns_rects (c : Thread nD τ) M fullShare (famR c) (fun _ _ => rfl) (famR_disjoint c) (famR_cover c) X

/-- The array whose chunk `p` (in device `c`'s listing) is `Y p`. -/
def joined (Y : Fin 2 × Fin 2 × Fin 2 → Vec F S128x1024 e) : Vec F S1024x1024 e :=
  glue (famR c) (Classical.choice (elt_nonempty (F := F) e)) Y

theorem joined_emb (Y : Fin 2 × Fin 2 × Fin 2 → Vec F S128x1024 e) (p : Fin 2 × Fin 2 × Fin 2) (x : S128x1024.Idx) :
    joined c Y ((famR c p).emb x) = Y p x := glue_emb (famR c) (famR_disjoint c) _ Y p x

theorem rows_join (Y : Fin 2 × Fin 2 × Fin 2 → Vec F S128x1024 e) :
    (bigSep Finset.univ fun p => own c (M.slice (famR c p) (fun _ => rfl)) (Y p) : sProp 𝕄) ⊢ own c M (joined c Y) := by
  have h := owns_of_rects (U := UU) (Ix := Unit) (Name := ℕ) (Lvl := ℕ) (c : Thread nD τ) M fullShare (famR c) (fun _ _ => rfl) (famR_disjoint c) (famR_cover c) (joined c Y)
  rwa [bigSep_congr fun p _ => congrArg (owns (c : Thread nD τ) (M.slice (famR c p) (fun _ => rfl)) fullShare) (funext fun x => joined_emb c Y p x)] at h

end Rows

/-! ## The float32 scratch -/

/-- Rows `128 j` to `128 j + 127` of a 256-row matrix. -/
abbrev subR (j : Fin 2) : Rect S256x1024 := Rect.unit (s := S256x1024) ![128 * j.val, 0] S128x1024.size (by revert j; decide)
def rowsOf {e : EltTy} (w : Vec F S256x1024 e) (j : Fin 2) : Vec F S128x1024 e := fun x => w ((subR j).emb x)

theorem row_of_half (t h j : Fin 2) (x : S128x1024.Idx) : (rowR t h j).emb x = (halfR t h).emb ((subR j).emb x) := by
  funext a
  refine Fin.ext ?_
  simp only [ValueKit.rect_emb_unit_val]
  fin_cases a
  · show 512 * t.val + 256 * h.val + 128 * j.val + (x 0 : ℕ) = 512 * t.val + 256 * h.val + (128 * j.val + (x 0 : ℕ)); omega
  · show 0 + (x 1 : ℕ) = 0 + (0 + (x 1 : ℕ)); omega

theorem halfR_disjoint (h h' : Fin 2) : Disjoint (halfR 1 h).set (halfR 0 h').set :=
  Rect.unit_disjoint 0 (by revert h h'; decide)

theorem emb_mem {s : Shape} (r : Rect s) (x : r.shape.Idx) : r.emb x ∈ r.set := by
  rw [← Rect.map_emb_univ]; exact Finset.mem_map_of_mem _ (Finset.mem_univ x)

/-- A 1024-row array after 256 rows of each tile were overwritten, read at the chunks of these rows. -/
theorem halves_one {β : Type} (c : Dev nD) (Z : S1024x1024.Idx → β) (w₀ w₁ : S256x1024.Idx → β) (h₀ h₁ j : Fin 2) :
    (fun x => (halfR 1 h₁).overlay ((halfR 0 h₀).overlay Z w₀) w₁ ((rowR 1 h₁ j).emb x)) = fun x => w₁ ((subR j).emb x) := by
  funext x; rw [row_of_half, Rect.overlay_emb]

theorem halves_zero {β : Type} (c : Dev nD) (Z : S1024x1024.Idx → β) (w₀ w₁ : S256x1024.Idx → β) (h₀ h₁ j : Fin 2) :
    (fun x => (halfR 1 h₁).overlay ((halfR 0 h₀).overlay Z w₀) w₁ ((rowR 0 h₀ j).emb x)) = fun x => w₀ ((subR j).emb x) := by
  funext x
  rw [row_of_half, Rect.overlay_of_not_mem _ _ _ (Finset.disjoint_right.mp (halfR_disjoint h₁ h₀) (emb_mem _ _)), Rect.overlay_emb]

/-- Chunk `j` of the kept half of tile `t` of the float32 scratch. -/
abbrev pM' (c : Dev nD) (t j : Fin 2) : Memref sig .tc .vmem S128x1024 .f32 := pM.slice (rowR t (keep t c) j) (fun _ => rfl)

/-- The other four chunks of the float32 scratch, with some contents. -/
def pRest (c : Dev nD) : sProp 𝕄 :=
  iprop(∃ Y : Fin 2 × Fin 2 × Fin 2 → Vec F S128x1024 .f32, own c (pM.slice (famR c (0, 1, 0)) (fun _ => rfl)) (Y (0, 1, 0)) ∗ own c (pM.slice (famR c (1, 1, 0)) (fun _ => rfl)) (Y (1, 1, 0))
    ∗ own c (pM.slice (famR c (0, 1, 1)) (fun _ => rfl)) (Y (0, 1, 1)) ∗ own c (pM.slice (famR c (1, 1, 1)) (fun _ => rfl)) (Y (1, 1, 1)))

theorem p_split (c : Dev nD) (Z : Vec F S1024x1024 .f32) (w₀ w₁ : Vec F S256x1024 .f32) :
    (own c pM ((halfR 1 (keep 1 c)).overlay ((halfR 0 (keep 0 c)).overlay Z w₀) w₁) : sProp 𝕄)
      ⊢ iprop(own c (pM' c 0 0) (rowsOf w₀ 0) ∗ own c (pM' c 1 0) (rowsOf w₁ 0) ∗ own c (pM' c 0 1) (rowsOf w₀ 1) ∗ own c (pM' c 1 1) (rowsOf w₁ 1) ∗ pRest (F := F) c) := by
  refine (rows_split c pM _).trans ?_
  rw [eight]
  iintro ⟨H1, H2, H3, H4, H5, H6, H7, H8⟩
  isplitl [H1]; · iapply (Entails.of_eq (congrArg (own c (pM' c 0 0)) (halves_zero c Z w₀ w₁ (keep 0 c) (keep 1 c) 0))); iexact H1
  isplitl [H2]; · iapply (Entails.of_eq (congrArg (own c (pM' c 1 0)) (halves_one c Z w₀ w₁ (keep 0 c) (keep 1 c) 0))); iexact H2
  isplitl [H3]; · iapply (Entails.of_eq (congrArg (own c (pM' c 0 1)) (halves_zero c Z w₀ w₁ (keep 0 c) (keep 1 c) 1))); iexact H3
  isplitl [H4]; · iapply (Entails.of_eq (congrArg (own c (pM' c 1 1)) (halves_one c Z w₀ w₁ (keep 0 c) (keep 1 c) 1))); iexact H4
  unfold pRest
  iexists (fun p x => (halfR 1 (keep 1 c)).overlay ((halfR 0 (keep 0 c)).overlay Z w₀) w₁ ((famR c p).emb x))
  isplitl [H5]; · iexact H5
  isplitl [H6]; · iexact H6
  isplitl [H7]; · iexact H7
  iexact H8

theorem p_join (c : Dev nD) (V : Fin 2 → Fin 2 → Vec F S128x1024 .f32) :
    (iprop(own c (pM' c 0 0) (V 0 0) ∗ own c (pM' c 1 0) (V 1 0) ∗ own c (pM' c 0 1) (V 0 1) ∗ own c (pM' c 1 1) (V 1 1) ∗ pRest (F := F) c) : sProp 𝕄)
      ⊢ iprop(∃ Z, own (F := F) c pM Z) := by
  unfold pRest
  iintro ⟨H1, H2, H3, H4, ⟨%Y, H5, H6, H7, H8⟩⟩
  iexists _
  iapply (rows_join c pM (fun p => if p.2.1 = 0 then V p.1 p.2.2 else Y p))
  rw [eight]
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Butterfly

end
-- ==== Proof.Values.lean ====
/-
The numbers of the exchange, as plain functions of the blocks the devices hold: the products a device computes, the
sums it forms, and the matrix it sends in each of its twelve transfers. Also what each stored value of the body is in
these words.
-/
module

public import proofs.«01_k».proof.Proof.Buffers

@[expose] public section

noncomputable section

namespace Cert.Butterfly

open Cert.KernelIdeal Cert.KernelIdeal.Gen
open Idealize.ShloMosaic

variable {F : FTy → Type} [FloatOps F]

/-- 128 rows times the right operand. -/
def prod128 (x : Vec F S128x512 .bf16) (w : Vec F S512x1024 .bf16) : Vec F S128x1024 .f32 :=
  matmul dot_S128x512_S512x1024_S128x1024_1_0_0_1_n_n none x w (constant S128x1024 .f32 0x00000000#32)
/-- 256 rows times the right operand. -/
def prod256 (x : Vec F S256x512 .bf16) (w : Vec F S512x1024 .bf16) : Vec F S256x1024 .f32 :=
  matmul dot_S256x512_S512x1024_S256x1024_1_0_0_1_n_n none x w (constant S256x1024 .f32 0x00000000#32)
/-- Rounding a chunk to bfloat16. -/
def narrow (v : Vec F S128x1024 .f32) : Vec F S128x1024 .bf16 := truncf .bf16 v bitsLt_bf16_f32
/-- Adding a received chunk. -/
def plus (v : Vec F S128x1024 .f32) (u : Vec F S128x1024 .bf16) : Vec F S128x1024 .f32 := addf v (extf .f32 u bitsLt_bf16_f32)

/-! ## The stored values of the body -/

/-- A chunk with a leading axis of size one, and without it again. -/
abbrev up (v : Vec F S128x1024 .bf16) : Vec F S1x128x1024 .bf16 := shapeCast S1x128x1024 v shapeCasts_S128x1024_S1x128x1024
abbrev down (v : Vec F S1x128x1024 .bf16) : Vec F S128x1024 .bf16 := shapeCast S128x1024 v shapeCasts_S1x128x1024_S128x1024

theorem down_up (v : Vec F S128x1024 .bf16) : down (up v) = v := shapeCast_shapeCast v _ _

theorem pay1_eq (w : Vec F S512x1024 .bf16) : k0_pay1 w = w := by
  show shapeCast S512x1024 (shapeCast S512x1024 w shapeCasts_S512x1024_S512x1024) shapeCasts_S512x1024_S512x1024 = w
  rw [shapeCast_self, shapeCast_self]

theorem pay3_eq (x : Vec F S128x512 .bf16) (w : Vec F S512x1024 .bf16) : k0_pay3 x w = narrow (prod128 x w) := by
  show narrow (prod128 (shapeCast S128x512 x shapeCasts_S128x512_S128x512) w) = _
  rw [shapeCast_self]
theorem pay2_eq (x : Vec F S128x512 .bf16) (w : Vec F S512x1024 .bf16) : down (k0_pay2 x w) = narrow (prod128 x w) := by
  show down (up (k0_pay3 x w)) = _; rw [down_up, pay3_eq]
theorem pay4_eq (v : Vec F S128x1024 .bf16) : down (k0_pay4 v) = v := down_up v
theorem pay5_eq (x : Vec F S128x512 .bf16) (w : Vec F S512x1024 .bf16) : down (k0_pay5 x w) = narrow (prod128 x w) := pay2_eq x w
theorem pay6_eq (x : Vec F S128x512 .bf16) (w : Vec F S512x1024 .bf16) : down (k0_pay6 x w) = narrow (prod128 x w) := pay2_eq x w

theorem pay7_eq (x : Vec F S256x512 .bf16) (w : Vec F S512x1024 .bf16) : k0_pay7 x w = prod256 x w := by
  show shapeCast S256x1024 (prod256 (shapeCast S256x512 x shapeCasts_S256x512_S256x512) w) shapeCasts_S256x1024_S256x1024 = _
  rw [shapeCast_self, shapeCast_self]
theorem pay8_eq (x : Vec F S256x512 .bf16) (w : Vec F S512x1024 .bf16) : k0_pay8 x w = prod256 x w := pay7_eq x w

theorem pay9_eq (v : Vec F S128x1024 .f32) (u : Vec F S128x1024 .bf16) : k0_pay9 v (up u) = plus v u := by
  show plus v (down (up u)) = _; rw [down_up]
theorem pay10_eq (v : Vec F S128x1024 .f32) : k0_pay10 v = v := shapeCast_self v _
theorem pay11_eq (v : Vec F S128x1024 .f32) : down (k0_pay11 v) = narrow v := down_up _
theorem pay13_eq (v : Vec F S128x1024 .f32) (u : Vec F S128x1024 .bf16) : k0_pay13 v (up u) = plus v u :=
  (shapeCast_self (k0_pay9 v (up u)) _).trans (pay9_eq v u)
theorem pay14_eq (v : Vec F S128x1024 .f32) (u : Vec F S128x1024 .bf16) : down (k0_pay14 v (up u)) = narrow (plus v u) :=
  (pay11_eq (k0_pay9 v (up u))).trans (congrArg narrow (pay9_eq v u))
theorem pay16_eq (v : Vec F S128x1024 .f32) (u : Vec F S128x1024 .bf16) : k0_pay16 v (up u) = plus v u := pay13_eq v u
theorem pay17_eq (v : Vec F S128x1024 .f32) (u : Vec F S128x1024 .bf16) : down (k0_pay17 v (up u)) = narrow (plus v u) := pay14_eq v u
theorem pay19_eq (v : Vec F S128x1024 .f32) (u : Vec F S128x1024 .bf16) : k0_pay19 v (up u) = plus v u := pay13_eq v u
theorem pay20_eq (v : Vec F S128x1024 .f32) (u : Vec F S128x1024 .bf16) : down (k0_pay20 v (up u)) = narrow (plus v u) := pay14_eq v u
theorem pay21_eq (v : Vec F S128x1024 .f32) (u : Vec F S128x1024 .bf16) : k0_pay21 v (up u) = narrow (plus v u) :=
  congrArg narrow (pay9_eq v u)
theorem pay22_eq (v : Vec F S128x1024 .f32) (u : Vec F S128x1024 .bf16) : k0_pay22 v (up u) = narrow (plus v u) := pay21_eq v u
theorem pay23_eq (v : Vec F S128x1024 .f32) (u : Vec F S128x1024 .bf16) : k0_pay23 v (up u) = narrow (plus v u) := pay21_eq v u
theorem pay24_eq (v : Vec F S128x1024 .f32) (u : Vec F S128x1024 .bf16) : k0_pay24 v (up u) = narrow (plus v u) := pay21_eq v u

/-! ## The matrices of the exchange -/

section Exchange

variable (a : Dev nD → Vec F S1024x512 .bf16) (b : Dev nD → Vec F S512x1024 .bf16)

/-- The partner of the first and of the second step of tile `t`. -/
def part1 (t : Fin 2) (c : Dev nD) : Dev nD := if t = 0 then pA c else pB c
def part2 (t : Fin 2) (c : Dev nD) : Dev nD := if t = 0 then pB c else pA c

/-- 128 and 256 rows of a left operand. -/
def rowsA (A : Vec F S1024x512 .bf16) (t h j : Fin 2) : Vec F S128x512 .bf16 := fun x => A ((arowR t h j).emb x)
def halfA (A : Vec F S1024x512 .bf16) (t h : Fin 2) : Vec F S256x512 .bf16 := fun x => A ((ahalfR t h).emb x)

/-- What device `c` gives away of tile `t` in the first step: chunk `j` of its product, in the half it does not keep. -/
def snd0 (c : Dev nD) (t j : Fin 2) : Vec F S128x1024 .bf16 :=
  narrow (prod128 (rowsA (a c) t (other (keep t c)) j) (b c))
/-- The half of its product that device `c` keeps of tile `t`. -/
def half (c : Dev nD) (t : Fin 2) : Vec F S256x1024 .f32 := prod256 (halfA (a c) t (keep t c)) (b c)
/-- Chunk `j` of the kept half after the first step. -/
def acc (c : Dev nD) (t j : Fin 2) : Vec F S128x1024 .f32 := plus (rowsOf (half a b c t) j) (snd0 a b (part1 t c) t j)
/-- Chunk `j` of the kept half after the second step: the result there. -/
def res (c : Dev nD) (t j : Fin 2) : Vec F S128x1024 .bf16 := narrow (plus (acc a b c t j) (narrow (acc a b (part2 t c) t j)))

/-- The matrix device `c` sends in transfer `i`. -/
def xval (i : Fin 12) (c : Dev nD) : Vec F S128x1024 .bf16 :=
  match i with
  | 0 => snd0 a b c 0 0 | 1 => snd0 a b c 1 0 | 2 => snd0 a b c 0 1 | 3 => snd0 a b c 1 1
  | 4 => narrow (acc a b c 0 0) | 5 => narrow (acc a b c 1 0) | 6 => narrow (acc a b c 0 1) | 7 => narrow (acc a b c 1 1)
  | 8 => res a b c 0 0 | 9 => res a b c 1 0 | 10 => res a b c 0 1 | 11 => res a b c 1 1

/-- The whole result as device `c` ends up holding it: its own chunks, and its first partner's in the other halves. -/
def outAt (c : Dev nD) : Vec F S1024x1024 .bf16 :=
  joined c fun p => res a b (if p.2.1 = 0 then c else part1 p.1 c) p.1 p.2.2

end Exchange

end Cert.Butterfly

end
-- ==== Proof.Enter.lean ====
/-
The beginning of the body: a device tells its two partners that it is there, handing them the places on it that they
will write, keeps its right operand, and waits for the same from both. Then the exchange is open.
-/
module

public import proofs.«01_k».proof.Proof.Protocol
public import proofs.«01_k».proof.Proof.Values

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem zero2 : (![0, 0] : Fin 2 → ℕ) = fun _ => 0 := by funext a; fin_cases a <;> rfl

/-! ## Loads and stores at offsets of the program -/

section At

variable {s : Shape} {e : EltTy} {α : Type} (c : Dev nD) (M : Memref sig .tc .vmem s e) {off off' : Fin s.rank → ℕ} {size : Fin s.rank → ℕ}

theorem load_at {Q : α → sProp 𝕄} {hb} {hl : M.view.LoadsAt (Rect.unit (s := s) off size hb).toLoadRect}
    {k : ((Rect.unit (s := s) off size hb).shape.Idx → Elt F e) → Prog (TpuEff nD τ sig (Elt F) Λ₀ .tc) α} (X : s.Idx → Elt F e) (h : off = off') (hb') :
    own c M X ⊢ iprop((own c M X -∗ runs c (k (fun x => X ((Rect.unit (s := s) off' size hb').emb x))) Q)
      -∗ runs c (.op (.load M (Rect.unit (s := s) off size hb).toLoadRect hl) k) Q) := by
  subst h; exact load_in c M _ X

theorem store_at {Q : α → sProp 𝕄} {hb} {w : (Rect.unit (s := s) off size hb).shape.Idx → Elt F e}
    {hx : (M.access (Rect.unit (s := s) off size hb)).Stores Finset.univ} {hm}
    {k : PUnit → Prog (TpuEff nD τ sig (Elt F) Λ₀ .tc) α} (X : s.Idx → Elt F e) (h : off = off') (hb') :
    own c M X ⊢ iprop((own c M ((Rect.unit (s := s) off' size hb').overlay X w) -∗ runs c (k ⟨⟩) Q)
      -∗ runs c (.op (.store M (Rect.unit (s := s) off size hb) w Finset.univ hx hm) k) Q) := by
  subst h; exact store_in c M _ X

theorem load_slice_at {Q : α → sProp 𝕄} {hb} {hl : M.view.LoadsAt (Rect.unit (s := s) off size hb).toLoadRect}
    {k : ((Rect.unit (s := s) off size hb).shape.Idx → Elt F e) → Prog (TpuEff nD τ sig (Elt F) Λ₀ .tc) α} (h : off = off') (hb')
    (X : (Rect.unit (s := s) off' size hb').shape.Idx → Elt F e) :
    own c (M.slice (Rect.unit (s := s) off' size hb') (fun _ => rfl)) X
      ⊢ iprop((own c (M.slice (Rect.unit (s := s) off' size hb') (fun _ => rfl)) X -∗ runs c (k X) Q)
      -∗ runs c (.op (.load M (Rect.unit (s := s) off size hb).toLoadRect hl) k) Q) := by
  subst h; exact load_slice c M _ _ X

theorem store_slice_at {Q : α → sProp 𝕄} {hb} {w : (Rect.unit (s := s) off size hb).shape.Idx → Elt F e}
    {hx : (M.access (Rect.unit (s := s) off size hb)).Stores Finset.univ} {hm}
    {k : PUnit → Prog (TpuEff nD τ sig (Elt F) Λ₀ .tc) α} (h : off = off') (hb') (X : (Rect.unit (s := s) off' size hb').shape.Idx → Elt F e) :
    own c (M.slice (Rect.unit (s := s) off' size hb') (fun _ => rfl)) X
      ⊢ iprop((own c (M.slice (Rect.unit (s := s) off' size hb') (fun _ => rfl)) w -∗ runs c (k ⟨⟩) Q)
      -∗ runs c (.op (.store M (Rect.unit (s := s) off size hb) w Finset.univ hx hm) k) Q) := by
  subst h; exact store_slice c M _ _ X

end At

/-! ## The places a device hands over -/

/-- The places on device `c` that its partners will write. -/
def places (c : Dev nD) : sProp 𝕄 := bigSep Finset.univ fun i : Fin 12 => iprop(∃ Y, own (F := F) c (dstM i (peer i c)) Y)

theorem places_split (c : Dev nD) : (places c : sProp 𝕄) ⊢ iprop(barPay (F := F) false (pA c) ∗ barPay (F := F) true (pB c)) := by
  have e : (Finset.univ.filter fun i : Fin 12 => ¬ (toA i = false)) = Finset.univ.filter fun i => toA i = true := by decide
  have hA : barPay (F := F) false (pA c) = bigSep (Finset.univ.filter fun i : Fin 12 => toA i = true) fun i => iprop(∃ Y, own (F := F) c (dstM i (peer i c)) Y) := by
    unfold barPay slot
    rw [e]
    refine bigSep_congr fun i hi => ?_
    have h : peer i c = pA c := if_pos (Finset.mem_filter.mp hi).2
    rw [← h, peer_peer]
  have hB : barPay (F := F) true (pB c) = bigSep (Finset.univ.filter fun i : Fin 12 => ¬ toA i = true) fun i => iprop(∃ Y, own (F := F) c (dstM i (peer i c)) Y) := by
    unfold barPay slot
    refine bigSep_congr fun i hi => ?_
    have h : peer i c = pB c := if_neg (Finset.mem_filter.mp hi).2
    rw [← h, peer_peer]
  unfold places
  rw [hA, hB, bigSep_filter_split Finset.univ fun i : Fin 12 => toA i = true]
  exact BI.Entails.refl _

section Enter

variable (X : Fin 12 → Dev nD → Vec F S128x1024 .bf16) (K : Dev nD × Fin 25 → ℕ)

/-- What device `c` has of the exchange when the body begins. -/
def before (c : Dev nD) : sProp 𝕄 :=
  iprop((∃ W, owes (c : Thread nD τ) (O₀ c) W)
    ∗ (dutyTok ER (barCell (pA c)) 0 false ∗ dutyTok ER (barCell (pB c)) 0 true)
    ∗ (atPos ER (barCell c) 0 ∅ 0 ∗ cred (tallyAt (barCell c) () 2))
    ∗ bigSep Finset.univ (fun k : Fin 12 => iprop(dutyTok ER (sendCell k c) 0 false ∗ dutyTok ER (recvCell k (peer k c)) 0 false))
    ∗ bigSep Finset.univ (fun k : Fin 12 => atPos ER (sendCell k c) 0 ∅ 0)
    ∗ bigSep Finset.univ (fun k : Fin 12 => iprop(atPos ER (recvCell k c) 0 ∅ 0 ∗ cred (tallyAt (recvCell k c) () N))))

/-- The exchange is open: every transfer may be sent. -/
theorem talk_open (c : Dev nD) (W : Waits sig Unit) :
    iprop(owes (c : Thread nD τ) (dues c Finset.univ) W
      ∗ bigSep Finset.univ (fun k : Fin 12 => iprop(dutyTok ER (sendCell k c) 0 false ∗ dutyTok ER (recvCell k (peer k c)) 0 false))
      ∗ bigSep Finset.univ (fun k : Fin 12 => slot (F := F) k c)
      ∗ bigSep Finset.univ (fun k : Fin 12 => atPos ER (sendCell k c) 0 ∅ 0)
      ∗ bigSep Finset.univ (fun k : Fin 12 => iprop(atPos ER (recvCell k c) 0 ∅ 0 ∗ cred (tallyAt (recvCell k c) () N))))
      ⊢ (talk (F := F) c Finset.univ Finset.univ Finset.univ : sProp 𝕄) := by
  have e : bigSep Finset.univ (fun k : Fin 12 => ticket (F := F) c k)
      = iprop(bigSep Finset.univ (fun k : Fin 12 => iprop(dutyTok ER (sendCell k c) 0 false ∗ dutyTok ER (recvCell k (peer k c)) 0 false))
        ∗ bigSep Finset.univ (fun k : Fin 12 => slot (F := F) k c)) := by
    refine (bigSep_congr fun k _ => ?_).trans (bigSep_sep _ _ _)
    unfold ticket
    exact (equiv_iff.mp ⟨BI.sep_assoc, BI.sep_assoc'⟩).symm
  unfold talk
  rw [e, Finset.sdiff_self, bigSep_empty, bigSep_empty, bigSep_empty]
  iintro ⟨HO, Ht, Hs, Ha, Hr⟩
  isplitl [HO]; · iexists W; iexact HO
  isplitl [Ht Hs]
  · isplitl [Ht]; · iexact Ht
    iexact Hs
  isplitr; · iempintro
  isplitl [Ha]; · iexact Ha
  isplitl [Hr]; · iexact Hr
  isplitr <;> iempintro

theorem part1_run (c : Dev nD) (w : Vec F S512x1024 .bf16) (w' : Vec F S512x1024 .bf16) (Kt : _ → sProp 𝕄) :
    iprop(ctx X K ∗ before (F := F) c ∗ places (F := F) c ∗ own c bM w ∗ own c b16M w')
      ⊢ iprop((∀ v3 v4 v20 v22 v25 v26 v, (semVal (barCell c) 0 ∗ talk (F := F) c Finset.univ Finset.univ Finset.univ ∗ own c bM w ∗ own c b16M w)
          -∗ Kt ⟨c, v3, v4, v20, v22, v25, v26, v⟩)
        -∗ runs c (k0_part1 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7) Kt) := by
  rw [k0_part1_eq_skeleton]
  unfold k0_part1_skel
  simp only [semSignalWord, semWaitWord, Prog.lift, Prog.bind_op, Prog.bind_ret, Prog.pure_eq_ret, wp_deviceId]
  unfold before
  iintro ⟨#Hctx, ⟨⟨%W, HO⟩, ⟨HtA, HtB⟩, ⟨Hat, Hc⟩, Htok, HaS, HaR⟩, Hpl, Hb, Hb16⟩ Hk
  ihave Hpl := (places_split (F := F) c) $$ Hpl
  icases Hpl with ⟨HplA, HplB⟩
  ihave #HA := (ctx_bar X K (pA c)) $$ Hctx
  ihave #HB := (ctx_bar X K (pB c)) $$ Hctx
  ihave #HC := (ctx_bar X K c) $$ Hctx
  icases HA with ⟨HiA, HrA⟩
  icases HB with ⟨HiB, HrB⟩
  icases HC with ⟨HiC, HrC⟩
  ihave #Hlev := (ctx_lev X K) $$ Hctx
  simp only [dev1_eq c, dev2_eq c]
  iapply (Rounds.wp_signal 𝒱₀ ER (Rd X) (c : Thread nD τ) none (dst := (pA c : Thread nD τ)) (κ := K (pA c, barK))
      (d := false) (by rw [duties_bar]; exact Finset.mem_univ _) (by show 1 = _; decide) () (O₁ c) rfl) $$ [HO HtA HplA]
  · isplitr; · iexact HiA
    isplitl [HO]; · iexact HO
    isplitl [HtA]; · iexact HtA
    isplitl [HplA]; · rw [payload_bar]; iexact HplA
    iexact HrA
  iintro HO
  unfold O₁
  iapply (Rounds.wp_signal 𝒱₀ ER (Rd X) (c : Thread nD τ) none (dst := (pB c : Thread nD τ)) (κ := K (pB c, barK))
      (d := true) (by rw [duties_bar]; exact Finset.mem_univ _) (by show 1 = _; decide) () (dues c Finset.univ) rfl) $$ [HO HtB HplB]
  · isplitr; · iexact HiB
    isplitl [HO]; · iexact HO
    isplitl [HtB]; · iexact HtB
    isplitl [HplB]; · rw [payload_bar]; iexact HplB
    iexact HrB
  iintro HO
  iapply (load_all c bM zero2 w) $$ Hb
  iintro Hb
  iapply (load_all c b16M zero2 w') $$ Hb16
  iintro Hb16
  iapply (store_all c b16M zero2 w') $$ Hb16
  iintro Hb16
  rw [pay1_eq]
  iapply (Rounds.wp_wait_rest_token 𝒱₀ ER (Rd X) (c : Thread nD τ) none (κ := K (c, barK))
      (wpE_semWait_eq 𝒱₀ (c : Thread nD τ) none Set.univ) (Set.mem_univ _) () (O := dues c Finset.univ) (W := W) (R := 0) (m := 0) (T := ∅)
      (by rw [expect_bar]; decide)) $$ [Hc HO Hat]
  · isplitr; · iexact HiC
    isplitl [Hc]; · iexact Hc
    isplitl [HO]; · iexact HO
    isplitr
    · iapply (mayWait_dues c (.reg barS) Finset.univ 1 (lv_bar c ()).le (fun k _ => by omega)); iexact Hlev
    iexact Hat
  iintro ⟨HO, Hat, -, Hpay⟩
  ihave Hpay := (Entails.of_eq (rest_bar X c)) $$ Hpay
  imod (Rounds.cell_close ER (Rd X) (Set.mem_univ (K (c, barK))) (fun h => h) (R := 0 + 1) (duties_later X (barCell c))) $$ [Hat] with Hz
  · isplitr; · iexact HiC
    iexact Hat
  rw [wp_ret]; imodintro
  iapply Hk
  isplitl [Hz]; · iexact Hz
  isplitl [HO Htok Hpay HaS HaR]
  · iapply (talk_open (F := F) c _)
    isplitl [HO]; · iexact HO
    isplitl [Htok]; · iexact Htok
    isplitl [Hpay]; · iexact Hpay
    isplitl [HaS]; · iexact HaS
    iexact HaR
  isplitl [Hb]; · iexact Hb
  iexact Hb16

end Enter

end Cert.Butterfly

end
-- ==== Proof.Steps.lean ====
/-
The steps of the body over the exchange's numbers: sending the matrix of a transfer, and waiting for one, with the
memrefs and values as the program writes them.
-/
module

public import proofs.«01_k».proof.Proof.Enter

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The transfers from number `n` on. -/
def fromT (n : ℕ) : Finset (Fin 12) := Finset.univ.filter fun i => n ≤ i.val

theorem fromT_zero : fromT 0 = Finset.univ := by decide

/-- A chunk of the result buffer, at an offset of the program. -/
theorem out_eq {off : Fin 2 → ℕ} {hb} (t h j : Fin 2) (e : off = ![512 * t.val + 256 * h.val + 128 * j.val, 0]) :
    (oM.slice (Rect.unit (s := S1024x1024) off S128x1024.size hb) (fun _ => rfl) : Memref sig .tc .vmem S128x1024 .bf16) = outM t h j := by
  subst e; rfl

/-- Loads of 128 and of 256 rows of the left operand, and the overwriting of 256 rows of the float32 scratch. -/
theorem load_arow {α : Type} {Q : α → sProp 𝕄} (c : Dev nD) (A : Vec F S1024x512 .bf16) (t h j : Fin 2) {off : Fin 2 → ℕ} {hb}
    {hl : aM.view.LoadsAt (Rect.unit (s := S1024x512) off S128x512.size hb).toLoadRect}
    {k : (S128x512.Idx → Elt F .bf16) → Prog (TpuEff nD τ sig (Elt F) Λ₀ .tc) α} (e : off = ![512 * t.val + 256 * h.val + 128 * j.val, 0]) :
    own c aM A ⊢ iprop((own c aM A -∗ runs c (k (rowsA A t h j)) Q) -∗ runs c (.op (.load aM (Rect.unit (s := S1024x512) off S128x512.size hb).toLoadRect hl) k) Q) :=
  load_at c aM A e (inb_arow t h j)

theorem load_ahalf {α : Type} {Q : α → sProp 𝕄} (c : Dev nD) (A : Vec F S1024x512 .bf16) (t h : Fin 2) {off : Fin 2 → ℕ} {hb}
    {hl : aM.view.LoadsAt (Rect.unit (s := S1024x512) off S256x512.size hb).toLoadRect}
    {k : (S256x512.Idx → Elt F .bf16) → Prog (TpuEff nD τ sig (Elt F) Λ₀ .tc) α} (e : off = ![512 * t.val + 256 * h.val, 0]) :
    own c aM A ⊢ iprop((own c aM A -∗ runs c (k (halfA A t h)) Q) -∗ runs c (.op (.load aM (Rect.unit (s := S1024x512) off S256x512.size hb).toLoadRect hl) k) Q) :=
  load_at c aM A e (inb_ahalf t h)

theorem store_half {α : Type} {Q : α → sProp 𝕄} (c : Dev nD) (Z : Vec F S1024x1024 .f32) (t h : Fin 2) {off : Fin 2 → ℕ} {hb} {w : Vec F S256x1024 .f32}
    {hx : (pM.access (Rect.unit (s := S1024x1024) off S256x1024.size hb)).Stores Finset.univ} {hm}
    {k : PUnit → Prog (TpuEff nD τ sig (Elt F) Λ₀ .tc) α} (e : off = ![512 * t.val + 256 * h.val, 0]) :
    own c pM Z ⊢ iprop((own c pM ((halfR t h).overlay Z w) -∗ runs c (k ⟨⟩) Q)
      -∗ runs c (.op (.store pM (Rect.unit (s := S1024x1024) off S256x1024.size hb) w Finset.univ hx hm) k) Q) :=
  store_at c pM Z e (inb_half t h)

/-- Loads and stores of a kept chunk of the float32 scratch. -/
theorem load_mine {α : Type} {Q : α → sProp 𝕄} (c : Dev nD) (t j : Fin 2) (v : Vec F S128x1024 .f32) {off : Fin 2 → ℕ} {hb}
    {hl : pM.view.LoadsAt (Rect.unit (s := S1024x1024) off S128x1024.size hb).toLoadRect}
    {k : (S128x1024.Idx → Elt F .f32) → Prog (TpuEff nD τ sig (Elt F) Λ₀ .tc) α} (e : off = ![512 * t.val + 256 * (keep t c).val + 128 * j.val, 0]) :
    own c (pM' c t j) v ⊢ iprop((own c (pM' c t j) v -∗ runs c (k v) Q)
      -∗ runs c (.op (.load pM (Rect.unit (s := S1024x1024) off S128x1024.size hb).toLoadRect hl) k) Q) :=
  load_slice_at c pM e (inb_row t (keep t c) j) v

theorem store_mine {α : Type} {Q : α → sProp 𝕄} (c : Dev nD) (t j : Fin 2) (v : Vec F S128x1024 .f32) {off : Fin 2 → ℕ} {hb} {w : Vec F S128x1024 .f32}
    {hx : (pM.access (Rect.unit (s := S1024x1024) off S128x1024.size hb)).Stores Finset.univ} {hm}
    {k : PUnit → Prog (TpuEff nD τ sig (Elt F) Λ₀ .tc) α} (e : off = ![512 * t.val + 256 * (keep t c).val + 128 * j.val, 0]) :
    own c (pM' c t j) v ⊢ iprop((own c (pM' c t j) w -∗ runs c (k ⟨⟩) Q)
      -∗ runs c (.op (.store pM (Rect.unit (s := S1024x1024) off S128x1024.size hb) w Finset.univ hx hm) k) Q) :=
  store_slice_at c pM e (inb_row t (keep t c) j) v

/-- A program that has returned. -/
theorem done {α : Type} {Q : α → sProp 𝕄} (c : Dev nD) (x : α) : (Q x : sProp 𝕄) ⊢ runs c (.ret x) Q := by
  unfold runs; rw [wp_ret]; iintro H; imodintro; iexact H

section Steps

variable (a : Dev nD → Vec F S1024x512 .bf16) (b : Dev nD → Vec F S512x1024 .bf16) (K : Dev nD × Fin 25 → ℕ)

theorem send_step {P S R : Finset (Fin 12)} (c : Dev nD) (i : Fin 12) {P' : Finset (Fin 12)} (hi : i ∈ P) (hS : i ∈ S) (hP : P.erase i = P')
    {src dst : Memref sig .tc .vmem S128x1024 .bf16} {n : Dev nD} {qs qr : DmaSem sig} {M : Memref sig .tc .vmem S128x1024 .bf16} {V : Vec F S128x1024 .bf16}
    (hn : n = peer i c) (hsrc : src = srcM i c) (hdst : dst = dstM i c) (hqs : qs = sendS i) (hqr : qr = recvS i) (hM : srcM i c = M) (hV : xval a b i c = V)
    {α : Type} {Q : α → sProp 𝕄} {k : PUnit → Prog (TpuEff nD τ sig (Elt F) Λ₀ .tc) α}
    {hsc : (dst : Memref sig (Dev.tc n : Thread nD τ).2.kind .vmem S128x1024 .bf16).view.ref.isScScratch = false}
    {h₁ : src.view.WordExact} {h₂ : dst.view.WordExact}
    {hsem : DmaTarget.Typed .vmem (.dma qr) (.remote (Dev.tc n : Thread nD τ) (dst : Memref sig (Dev.tc n : Thread nD τ).2.kind .vmem S128x1024 .bf16) (.dma qs) hsc)} :
    iprop(ctx (xval a b) K ∗ own c M V ∗ talk (F := F) c P S R)
      ⊢ iprop((talk (F := F) c P' S R -∗ runs c (k ⟨⟩) Q)
        -∗ runs c (.op (.enqueueDma src (.remote (Dev.tc n : Thread nD τ) dst (.dma qs) hsc) (.dma qr) h₁ h₂ hsem) k) Q) := by
  subst hM hV hP
  exact talk_send (xval a b) K c i hi hS hn hsrc hdst hqs hqr

theorem sent_step {P S R : Finset (Fin 12)} (c : Dev nD) (i : Fin 12) {S' : Finset (Fin 12)} (hi : i ∈ S) (hP : i ∉ P) (hS : S.erase i = S')
    {src dst : Memref sig .tc .vmem S128x1024 .bf16} {q : DmaSem sig} {M : Memref sig .tc .vmem S128x1024 .bf16} {V : Vec F S128x1024 .bf16}
    (hq : q = sendS i) (hN : dst.view.dmaCredit = N) (hM : srcM i c = M) (hV : xval a b i c = V)
    {α : Type} {Q : α → sProp 𝕄} {k : PUnit → Prog (TpuEff nD τ sig (Elt F) Λ₀ .tc) α} {h₁ : src.view.WordExact} {h₂ : dst.view.WordExact} :
    iprop(ctx (xval a b) K ∗ talk (F := F) c P S R)
      ⊢ iprop((iprop(own c M V ∗ talk (F := F) c P S' R) -∗ runs c (k ⟨⟩) Q) -∗ runs c (.op (.waitDma2 q src dst h₁ h₂) k) Q) := by
  subst hM hV hS
  exact talk_wait_send (xval a b) K c i hi hP hq hN

theorem recv_step {P S R : Finset (Fin 12)} (c : Dev nD) (i : Fin 12) {R' : Finset (Fin 12)} (hi : i ∈ R) (hP : ∀ k ∈ P, i < k) (hR : R.erase i = R')
    {src dst : Memref sig .tc .vmem S128x1024 .bf16} {q : DmaSem sig} {M : Memref sig .tc .vmem S128x1024 .bf16} {V : Vec F S128x1024 .bf16}
    (hq : q = recvS i) (hN : dst.view.dmaCredit = N) (hM : dstM i (peer i c) = M) (hV : xval a b i (peer i c) = V)
    {α : Type} {Q : α → sProp 𝕄} {k : PUnit → Prog (TpuEff nD τ sig (Elt F) Λ₀ .tc) α} {h₁ : src.view.WordExact} {h₂ : dst.view.WordExact} :
    iprop(ctx (xval a b) K ∗ talk (F := F) c P S R)
      ⊢ iprop((iprop(own c M V ∗ talk (F := F) c P S R') -∗ runs c (k ⟨⟩) Q) -∗ runs c (.op (.waitDma2 q src dst h₁ h₂) k) Q) := by
  subst hM hV hR
  exact talk_wait_recv (xval a b) K c i hi hP hq hN

end Steps

end Cert.Butterfly

end
-- ==== Proof.First.lean ====
/-
The first step of the body: the four chunks a device gives away are multiplied out and sent, and the halves it keeps
are multiplied out into the float32 scratch.
-/
module

public import proofs.«01_k».proof.Proof.Steps

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1024x512 .bf16) (b : Dev nD → Vec F S512x1024 .bf16) (K : Dev nD × Fin 25 → ℕ)

theorem part2_run (c : Dev nD) (v3 v25 v26 v : BitVec 32) (Kt : _ → sProp 𝕄) :
    iprop(ctx (xval a b) K ∗ own c aM (a c) ∗ own c b16M (b c) ∗ someBuf (F := F) c sb0M 0 0 ∗ someBuf (F := F) c sb0M 1 0 ∗ talk (F := F) c (fromT 0) (fromT 0) (fromT 0))
      ⊢ iprop((∀ v28, (own c aM (a c) ∗ own c b16M (b c) ∗ someBuf (F := F) c sb0M 1 0 ∗ talk (F := F) c (fromT 1) (fromT 0) (fromT 0)) -∗ Kt ⟨v28, snd0 a b c 1 0⟩)
        -∗ runs c (k0_part2 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3 v25 v26 v) Kt) := by
  rw [k0_part2_eq_skeleton]
  unfold k0_part2_skel
  simp only [Prog.lift, Prog.bind_op, Prog.bind_ret, Prog.pure_eq_ret]
  iintro ⟨#Hctx, Ha, Hb, ⟨%Y0, H0⟩, ⟨%Y1, H1⟩, HT⟩ Hk
  iapply (load_arow c (a c) 0 (other (keep 0 c)) 0 (off1_eq c 0)) $$ Ha
  iintro Ha
  iapply (load_all c b16M zero2 (b c)) $$ Hb
  iintro Hb
  iapply (load_buf c sb0M 0 0 Y0 rfl) $$ H0
  iintro H0
  iapply (store_buf c sb0M 0 0 Y0 rfl) $$ H0
  iintro H0
  iapply (send_step a b K c 0 (P := fromT 0) (S := fromT 0) (P' := fromT 1) (by decide) (by decide) (by decide) (dev3_eq c) rfl rfl rfl rfl (M := bufM sb0M 0 0) rfl (by exact (pay2_eq _ _).symm)) $$ [H0 HT]
  · isplitr; · iexact Hctx
    isplitl [H0]; · iexact H0
    iexact HT
  iintro HT
  iapply (load_arow c (a c) 1 (other (keep 1 c)) 0 (off2_eq c 0)) $$ Ha
  iintro Ha
  iapply (load_all c b16M zero2 (b c)) $$ Hb
  iintro Hb
  iapply (load_buf c sb0M 1 0 Y1 rfl) $$ H1
  iintro H1
  rw [show k0_pay3 _ _ = snd0 a b c 1 0 from pay3_eq (rowsA (a c) 1 (other (keep 1 c)) 0) (b c)]
  iapply (done c)
  iapply Hk
  isplitl [Ha]; · iexact Ha
  isplitl [Hb]; · iexact Hb
  isplitl [H1]; · iexists Y1; iexact H1
  iexact HT

theorem part3_run (c : Dev nD) (v3 v4 v25 : BitVec 32) (Kt : _ → sProp 𝕄) :
    iprop(ctx (xval a b) K ∗ own c aM (a c) ∗ own c b16M (b c) ∗ someBuf (F := F) c sb0M 1 0 ∗ someBuf (F := F) c sb0M 0 1 ∗ talk (F := F) c (fromT 1) (fromT 0) (fromT 0))
      ⊢ iprop(((own c aM (a c) ∗ own c b16M (b c) ∗ own c (bufM sb0M 0 1) (snd0 a b c 0 1) ∗ talk (F := F) c (fromT 2) (fromT 0) (fromT 0)) -∗ Kt ⟨⟩)
        -∗ runs c (k0_part3 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3 v4 v25 (snd0 a b c 1 0)) Kt) := by
  rw [k0_part3_eq_skeleton]
  unfold k0_part3_skel
  simp only [Prog.lift, Prog.bind_op, Prog.bind_ret, Prog.pure_eq_ret]
  iintro ⟨#Hctx, Ha, Hb, ⟨%Y1, H1⟩, ⟨%Y2, H2⟩, HT⟩ Hk
  iapply (store_buf c sb0M 1 0 Y1 rfl) $$ H1
  iintro H1
  iapply (send_step a b K c 1 (P := fromT 1) (S := fromT 0) (P' := fromT 2) (by decide) (by decide) (by decide) (dev4_eq c) rfl rfl rfl rfl (M := bufM sb0M 1 0) rfl (by exact (pay4_eq _).symm)) $$ [H1 HT]
  · isplitr; · iexact Hctx
    isplitl [H1]; · iexact H1
    iexact HT
  iintro HT
  iapply (load_arow c (a c) 0 (other (keep 0 c)) 1 (off1_eq c 1)) $$ Ha
  iintro Ha
  iapply (load_all c b16M zero2 (b c)) $$ Hb
  iintro Hb
  iapply (load_buf c sb0M 0 1 Y2 rfl) $$ H2
  iintro H2
  iapply (store_buf c sb0M 0 1 Y2 rfl) $$ H2
  iintro H2
  ihave H2 := (Entails.of_eq (congrArg (own (F := F) c (bufM sb0M 0 1)) (pay5_eq _ _))) $$ H2
  iapply (done c)
  iapply Hk
  isplitl [Ha]; · iexact Ha
  isplitl [Hb]; · iexact Hb
  isplitl [H2]; · iexact H2
  iexact HT

theorem part4_run (c : Dev nD) (v4 v20 v22 v28 : BitVec 32) (Z : Vec F S1024x1024 .f32) (Kt : _ → sProp 𝕄) :
    iprop(ctx (xval a b) K ∗ own c aM (a c) ∗ own c b16M (b c) ∗ own c pM Z ∗ own c (bufM sb0M 0 1) (snd0 a b c 0 1) ∗ someBuf (F := F) c sb0M 1 1
        ∗ talk (F := F) c (fromT 2) (fromT 0) (fromT 0))
      ⊢ iprop(((own c aM (a c) ∗ own c b16M (b c) ∗ own c pM ((halfR 0 (keep 0 c)).overlay Z (half a b c 0)) ∗ talk (F := F) c (fromT 4) (fromT 0) (fromT 0)) -∗ Kt ⟨⟩)
        -∗ runs c (k0_part4 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v4 v20 v22 v28) Kt) := by
  rw [k0_part4_eq_skeleton]
  unfold k0_part4_skel
  simp only [Prog.lift, Prog.bind_op, Prog.bind_ret, Prog.pure_eq_ret]
  iintro ⟨#Hctx, Ha, Hb, Hp, H2, ⟨%Y3, H3⟩, HT⟩ Hk
  iapply (send_step a b K c 2 (P := fromT 2) (S := fromT 0) (P' := fromT 3) (by decide) (by decide) (by decide) (dev5_eq c) rfl rfl rfl rfl (M := bufM sb0M 0 1) rfl rfl) $$ [H2 HT]
  · isplitr; · iexact Hctx
    isplitl [H2]; · iexact H2
    iexact HT
  iintro HT
  iapply (load_arow c (a c) 1 (other (keep 1 c)) 1 (off2_eq c 1)) $$ Ha
  iintro Ha
  iapply (load_all c b16M zero2 (b c)) $$ Hb
  iintro Hb
  iapply (load_buf c sb0M 1 1 Y3 rfl) $$ H3
  iintro H3
  iapply (store_buf c sb0M 1 1 Y3 rfl) $$ H3
  iintro H3
  iapply (send_step a b K c 3 (P := fromT 3) (S := fromT 0) (P' := fromT 4) (by decide) (by decide) (by decide) (dev6_eq c) rfl rfl rfl rfl (M := bufM sb0M 1 1) rfl (by exact (pay6_eq _ _).symm)) $$ [H3 HT]
  · isplitr; · iexact Hctx
    isplitl [H3]; · iexact H3
    iexact HT
  iintro HT
  iapply (load_ahalf c (a c) 0 (keep 0 c) (off3_eq c)) $$ Ha
  iintro Ha
  iapply (load_all c b16M zero2 (b c)) $$ Hb
  iintro Hb
  iapply (load_at c pM Z (off4_eq c) (inb_half 0 (keep 0 c))) $$ Hp
  iintro Hp
  iapply (store_half c Z 0 (keep 0 c) (off4_eq c)) $$ Hp
  iintro Hp
  rw [show k0_pay7 _ _ = half a b c 0 from pay7_eq (halfA (a c) 0 (keep 0 c)) (b c)]
  iapply (done c)
  iapply Hk
  isplitl [Ha]; · iexact Ha
  isplitl [Hb]; · iexact Hb
  isplitl [Hp]; · iexact Hp
  iexact HT

/-- A chunk of the kept halves, in the float32 scratch. -/
abbrev mine (c : Dev nD) (t j : Fin 2) (v : Vec F S128x1024 .f32) : sProp 𝕄 := own c (pM' c t j) v

theorem part5_run (c : Dev nD) (v3 v20 v22 : BitVec 32) (Z : Vec F S1024x1024 .f32) (Kt : _ → sProp 𝕄) :
    iprop(ctx (xval a b) K ∗ own c aM (a c) ∗ own c b16M (b c) ∗ own c pM ((halfR 0 (keep 0 c)).overlay Z (half a b c 0)) ∗ talk (F := F) c (fromT 4) (fromT 0) (fromT 0))
      ⊢ iprop((∀ v, (own c aM (a c) ∗ own c b16M (b c) ∗ mine c 0 0 (rowsOf (half a b c 0) 0) ∗ mine c 1 0 (rowsOf (half a b c 1) 0)
            ∗ mine c 0 1 (rowsOf (half a b c 0) 1) ∗ mine c 1 1 (rowsOf (half a b c 1) 1) ∗ pRest (F := F) c
            ∗ someBuf (F := F) c sb0M 0 0 ∗ someBuf (F := F) c rb0M 0 0 ∗ talk (F := F) c (fromT 4) (fromT 1) (fromT 1)) -∗ Kt ⟨v, acc a b c 0 0⟩)
        -∗ runs c (k0_part5 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3 v20 v22) Kt) := by
  rw [k0_part5_eq_skeleton]
  unfold k0_part5_skel
  simp only [Prog.lift, Prog.bind_op, Prog.bind_ret, Prog.pure_eq_ret]
  iintro ⟨#Hctx, Ha, Hb, Hp, HT⟩ Hk
  iapply (load_ahalf c (a c) 1 (keep 1 c) (off5_eq c)) $$ Ha
  iintro Ha
  iapply (load_all c b16M zero2 (b c)) $$ Hb
  iintro Hb
  iapply (load_at c pM _ (off6_eq c) (inb_half 1 (keep 1 c))) $$ Hp
  iintro Hp
  iapply (store_half c _ 1 (keep 1 c) (off6_eq c)) $$ Hp
  iintro Hp
  rw [show k0_pay8 _ _ = half a b c 1 from pay8_eq (halfA (a c) 1 (keep 1 c)) (b c)]
  ihave Hp := (p_split c Z (half a b c 0) (half a b c 1)) $$ Hp
  icases Hp with ⟨P0, P1, P2, P3, PR⟩
  iapply (sent_step a b K c 0 (P := fromT 4) (S := fromT 0) (S' := fromT 1) (by decide) (by decide) (by decide) rfl (by exact rfl) (M := bufM sb0M 0 0) (V := snd0 a b c 0 0) rfl rfl) $$ [HT]
  · isplitr; · iexact Hctx
    iexact HT
  iintro ⟨S0, HT⟩
  iapply (recv_step a b K c 0 (P := fromT 4) (R := fromT 0) (R' := fromT 1) (by decide) (by decide) (by decide) rfl (by exact rfl) (M := bufM rb0M 0 0) (V := snd0 a b (part1 0 c) 0 0) rfl rfl) $$ [HT]
  · isplitr; · iexact Hctx
    iexact HT
  iintro ⟨R0, HT⟩
  iapply (load_mine c 0 0 _ (off7_eq c 0)) $$ P0
  iintro P0
  iapply (load_buf c rb0M 0 0 _ rfl) $$ R0
  iintro R0
  rw [show k0_pay9 _ _ = acc a b c 0 0 from pay9_eq (rowsOf (half a b c 0) 0) (snd0 a b (part1 0 c) 0 0)]
  iapply (done c)
  iapply Hk
  isplitl [Ha]; · iexact Ha
  isplitl [Hb]; · iexact Hb
  isplitl [P0]; · iexact P0
  isplitl [P1]; · iexact P1
  isplitl [P2]; · iexact P2
  isplitl [P3]; · iexact P3
  isplitl [PR]; · iexact PR
  isplitl [S0]; · iexists _; iexact S0
  isplitl [R0]; · iexists _; iexact R0
  iexact HT

end Cert.Butterfly

end
-- ==== Proof.Second.lean ====
/-
The second step of the body: each chunk received from the first partner is added to the kept half, in the float32
scratch, and the sum, rounded, is sent to the second partner.
-/
module

public import proofs.«01_k».proof.Proof.First

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1024x512 .bf16) (b : Dev nD → Vec F S512x1024 .bf16) (K : Dev nD × Fin 25 → ℕ)

theorem part6_run (c : Dev nD) (v4 v141 : BitVec 32) (Kt : _ → sProp 𝕄) :
    iprop(ctx (xval a b) K ∗ mine c 0 0 (rowsOf (half a b c 0) 0) ∗ someBuf (F := F) c sb1M 0 0 ∗ talk (F := F) c (fromT 4) (fromT 1) (fromT 1))
      ⊢ iprop(((mine c 0 0 (acc a b c 0 0) ∗ someBuf (F := F) c sb0M 1 0 ∗ talk (F := F) c (fromT 5) (fromT 2) (fromT 1)) -∗ Kt ⟨⟩)
        -∗ runs c (k0_part6 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v4 v141 (acc a b c 0 0)) Kt) := by
  rw [k0_part6_eq_skeleton]
  unfold k0_part6_skel
  simp only [Prog.lift, Prog.bind_op, Prog.bind_ret, Prog.pure_eq_ret]
  iintro ⟨#Hctx, P0, ⟨%Y, H⟩, HT⟩ Hk
  iapply (load_mine c 0 0 _ (off7_eq c 0)) $$ P0
  iintro P0
  iapply (store_mine c 0 0 _ (off7_eq c 0)) $$ P0
  iintro P0
  rw [pay10_eq]
  iapply (load_buf c sb1M 0 0 Y rfl) $$ H
  iintro H
  iapply (store_buf c sb1M 0 0 Y rfl) $$ H
  iintro H
  iapply (send_step a b K c 4 (P := fromT 4) (S := fromT 1) (P' := fromT 5) (by decide) (by decide) (by decide) (dev7_eq c) rfl rfl rfl rfl (M := bufM sb1M 0 0) rfl (by exact (pay11_eq _).symm)) $$ [H HT]
  · isplitr; · iexact Hctx
    isplitl [H]; · iexact H
    iexact HT
  iintro HT
  iapply (sent_step a b K c 1 (P := fromT 5) (S := fromT 1) (S' := fromT 2) (by decide) (by decide) (by decide) rfl (by exact rfl) (M := bufM sb0M 1 0) (V := snd0 a b c 1 0) rfl rfl) $$ [HT]
  · isplitr; · iexact Hctx
    iexact HT
  iintro ⟨S1, HT⟩
  iapply (done c)
  iapply Hk
  isplitl [P0]; · iexact P0
  isplitl [S1]; · iexists _; iexact S1
  iexact HT

theorem part7_run (c : Dev nD) (v3 v22 : BitVec 32) (Kt : _ → sProp 𝕄) :
    iprop(ctx (xval a b) K ∗ mine c 1 0 (rowsOf (half a b c 1) 0) ∗ someBuf (F := F) c sb1M 1 0 ∗ talk (F := F) c (fromT 5) (fromT 2) (fromT 1))
      ⊢ iprop(((mine c 1 0 (acc a b c 1 0) ∗ someBuf (F := F) c rb0M 1 0 ∗ talk (F := F) c (fromT 6) (fromT 2) (fromT 2)) -∗ Kt ⟨⟩)
        -∗ runs c (k0_part7 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3 v22) Kt) := by
  rw [k0_part7_eq_skeleton]
  unfold k0_part7_skel
  simp only [Prog.lift, Prog.bind_op, Prog.bind_ret, Prog.pure_eq_ret]
  iintro ⟨#Hctx, P1, ⟨%Y, H⟩, HT⟩ Hk
  iapply (recv_step a b K c 1 (P := fromT 5) (R := fromT 1) (R' := fromT 2) (by decide) (by decide) (by decide) rfl (by exact rfl) (M := bufM rb0M 1 0) (V := snd0 a b (part1 1 c) 1 0) rfl rfl) $$ [HT]
  · isplitr; · iexact Hctx
    iexact HT
  iintro ⟨R1, HT⟩
  iapply (load_mine c 1 0 _ (off8_eq c 0)) $$ P1
  iintro P1
  iapply (load_buf c rb0M 1 0 _ rfl) $$ R1
  iintro R1
  iapply (load_mine c 1 0 _ (off8_eq c 0)) $$ P1
  iintro P1
  iapply (store_mine c 1 0 _ (off8_eq c 0)) $$ P1
  iintro P1
  rw [show k0_pay13 _ _ = acc a b c 1 0 from pay13_eq (rowsOf (half a b c 1) 0) (snd0 a b (part1 1 c) 1 0)]
  iapply (load_buf c sb1M 1 0 Y rfl) $$ H
  iintro H
  iapply (store_buf c sb1M 1 0 Y rfl) $$ H
  iintro H
  iapply (send_step a b K c 5 (P := fromT 5) (S := fromT 2) (P' := fromT 6) (by decide) (by decide) (by decide) (dev8_eq c) rfl rfl rfl rfl (M := bufM sb1M 1 0) rfl (by exact (pay14_eq (rowsOf (half a b c 1) 0) (snd0 a b (part1 1 c) 1 0)).symm)) $$ [H HT]
  · isplitr; · iexact Hctx
    isplitl [H]; · iexact H
    iexact HT
  iintro HT
  iapply (done c)
  iapply Hk
  isplitl [P1]; · iexact P1
  isplitl [R1]; · iexists _; iexact R1
  iexact HT

theorem part8_run (c : Dev nD) (v3 v20 : BitVec 32) (Kt : _ → sProp 𝕄) :
    iprop(ctx (xval a b) K ∗ mine c 0 1 (rowsOf (half a b c 0) 1) ∗ someBuf (F := F) c sb1M 0 1 ∗ talk (F := F) c (fromT 6) (fromT 2) (fromT 2))
      ⊢ iprop(((mine c 0 1 (acc a b c 0 1) ∗ someBuf (F := F) c sb0M 0 1 ∗ someBuf (F := F) c rb0M 0 1 ∗ own c (bufM sb1M 0 1) (narrow (acc a b c 0 1)) ∗ talk (F := F) c (fromT 6) (fromT 3) (fromT 3)) -∗ Kt ⟨⟩)
        -∗ runs c (k0_part8 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3 v20) Kt) := by
  rw [k0_part8_eq_skeleton]
  unfold k0_part8_skel
  simp only [Prog.lift, Prog.bind_op, Prog.bind_ret, Prog.pure_eq_ret]
  iintro ⟨#Hctx, P2, ⟨%Y, H⟩, HT⟩ Hk
  iapply (sent_step a b K c 2 (P := fromT 6) (S := fromT 2) (S' := fromT 3) (by decide) (by decide) (by decide) rfl (by exact rfl) (M := bufM sb0M 0 1) (V := snd0 a b c 0 1) rfl rfl) $$ [HT]
  · isplitr; · iexact Hctx
    iexact HT
  iintro ⟨S2, HT⟩
  iapply (recv_step a b K c 2 (P := fromT 6) (R := fromT 2) (R' := fromT 3) (by decide) (by decide) (by decide) rfl (by exact rfl) (M := bufM rb0M 0 1) (V := snd0 a b (part1 0 c) 0 1) rfl rfl) $$ [HT]
  · isplitr; · iexact Hctx
    iexact HT
  iintro ⟨R2, HT⟩
  iapply (load_mine c 0 1 _ (off7_eq c 1)) $$ P2
  iintro P2
  iapply (load_buf c rb0M 0 1 _ rfl) $$ R2
  iintro R2
  iapply (load_mine c 0 1 _ (off7_eq c 1)) $$ P2
  iintro P2
  iapply (store_mine c 0 1 _ (off7_eq c 1)) $$ P2
  iintro P2
  rw [show k0_pay16 _ _ = acc a b c 0 1 from pay16_eq (rowsOf (half a b c 0) 1) (snd0 a b (part1 0 c) 0 1)]
  iapply (load_buf c sb1M 0 1 Y rfl) $$ H
  iintro H
  iapply (store_buf c sb1M 0 1 Y rfl) $$ H
  iintro H
  ihave H := (Entails.of_eq (congrArg (own (F := F) c (bufM sb1M 0 1)) (pay17_eq (rowsOf (half a b c 0) 1) (snd0 a b (part1 0 c) 0 1)))) $$ H
  iapply (done c)
  iapply Hk
  isplitl [P2]; · iexact P2
  isplitl [S2]; · iexists _; iexact S2
  isplitl [R2]; · iexists _; iexact R2
  isplitl [H]; · iexact H
  iexact HT

theorem part9_run (c : Dev nD) (v4 v22 : BitVec 32) (Kt : _ → sProp 𝕄) :
    iprop(ctx (xval a b) K ∗ mine c 1 1 (rowsOf (half a b c 1) 1) ∗ own c (bufM sb1M 0 1) (narrow (acc a b c 0 1)) ∗ talk (F := F) c (fromT 6) (fromT 3) (fromT 3))
      ⊢ iprop((∀ v, (mine c 1 1 (rowsOf (half a b c 1) 1) ∗ someBuf (F := F) c sb0M 1 1 ∗ own c (bufM rb0M 1 1) (snd0 a b (part1 1 c) 1 1) ∗ talk (F := F) c (fromT 7) (fromT 4) (fromT 4)) -∗ Kt ⟨v, rowsOf (half a b c 1) 1⟩)
        -∗ runs c (k0_part9 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v4 v22) Kt) := by
  rw [k0_part9_eq_skeleton]
  unfold k0_part9_skel
  simp only [Prog.lift, Prog.bind_op, Prog.bind_ret, Prog.pure_eq_ret]
  iintro ⟨#Hctx, P3, H, HT⟩ Hk
  iapply (send_step a b K c 6 (P := fromT 6) (S := fromT 3) (P' := fromT 7) (by decide) (by decide) (by decide) (dev9_eq c) rfl rfl rfl rfl (M := bufM sb1M 0 1) rfl rfl) $$ [H HT]
  · isplitr; · iexact Hctx
    isplitl [H]; · iexact H
    iexact HT
  iintro HT
  iapply (sent_step a b K c 3 (P := fromT 7) (S := fromT 3) (S' := fromT 4) (by decide) (by decide) (by decide) rfl (by exact rfl) (M := bufM sb0M 1 1) (V := snd0 a b c 1 1) rfl rfl) $$ [HT]
  · isplitr; · iexact Hctx
    iexact HT
  iintro ⟨S3, HT⟩
  iapply (recv_step a b K c 3 (P := fromT 7) (R := fromT 3) (R' := fromT 4) (by decide) (by decide) (by decide) rfl (by exact rfl) (M := bufM rb0M 1 1) (V := snd0 a b (part1 1 c) 1 1) rfl rfl) $$ [HT]
  · isplitr; · iexact Hctx
    iexact HT
  iintro ⟨R3, HT⟩
  iapply (load_mine c 1 1 _ (off8_eq c 1)) $$ P3
  iintro P3
  iapply (done c)
  iapply Hk
  isplitl [P3]; · iexact P3
  isplitl [S3]; · iexists _; iexact S3
  isplitl [R3]; · iexact R3
  iexact HT

theorem part10_run (c : Dev nD) (v3 v258 : BitVec 32) (Kt : _ → sProp 𝕄) :
    iprop(ctx (xval a b) K ∗ mine c 1 1 (rowsOf (half a b c 1) 1) ∗ own c (bufM rb0M 1 1) (snd0 a b (part1 1 c) 1 1) ∗ someBuf (F := F) c sb1M 1 1 ∗ talk (F := F) c (fromT 7) (fromT 4) (fromT 4))
      ⊢ iprop(((mine c 1 1 (acc a b c 1 1) ∗ someBuf (F := F) c rb0M 1 1 ∗ someBuf (F := F) c sb1M 0 0 ∗ talk (F := F) c (fromT 8) (fromT 5) (fromT 4)) -∗ Kt ⟨⟩)
        -∗ runs c (k0_part10 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3 v258 (rowsOf (half a b c 1) 1)) Kt) := by
  rw [k0_part10_eq_skeleton]
  unfold k0_part10_skel
  simp only [Prog.lift, Prog.bind_op, Prog.bind_ret, Prog.pure_eq_ret]
  iintro ⟨#Hctx, P3, R3, ⟨%Y, H⟩, HT⟩ Hk
  iapply (load_buf c rb0M 1 1 _ rfl) $$ R3
  iintro R3
  iapply (load_mine c 1 1 _ (off8_eq c 1)) $$ P3
  iintro P3
  iapply (store_mine c 1 1 _ (off8_eq c 1)) $$ P3
  iintro P3
  rw [show k0_pay19 _ _ = acc a b c 1 1 from pay19_eq (rowsOf (half a b c 1) 1) (snd0 a b (part1 1 c) 1 1)]
  iapply (load_buf c sb1M 1 1 Y rfl) $$ H
  iintro H
  iapply (store_buf c sb1M 1 1 Y rfl) $$ H
  iintro H
  iapply (send_step a b K c 7 (P := fromT 7) (S := fromT 4) (P' := fromT 8) (by decide) (by decide) (by decide) (dev10_eq c) rfl rfl rfl rfl (M := bufM sb1M 1 1) rfl (by exact (pay20_eq (rowsOf (half a b c 1) 1) (snd0 a b (part1 1 c) 1 1)).symm)) $$ [H HT]
  · isplitr; · iexact Hctx
    isplitl [H]; · iexact H
    iexact HT
  iintro HT
  iapply (sent_step a b K c 4 (P := fromT 8) (S := fromT 4) (S' := fromT 5) (by decide) (by decide) (by decide) rfl (by exact rfl) (M := bufM sb1M 0 0) (V := narrow (acc a b c 0 0)) rfl rfl) $$ [HT]
  · isplitr; · iexact Hctx
    iexact HT
  iintro ⟨S4, HT⟩
  iapply (done c)
  iapply Hk
  isplitl [P3]; · iexact P3
  isplitl [R3]; · iexists _; iexact R3
  isplitl [S4]; · iexists _; iexact S4
  iexact HT

end Cert.Butterfly

end
-- ==== Proof.Third.lean ====
/-
The third step of the body: each chunk received from the second partner is added, the sum is rounded into the result
and sent to the first partner; then the chunks that partner sends are waited for.
-/
module

public import proofs.«01_k».proof.Proof.Second

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1024x512 .bf16) (b : Dev nD → Vec F S512x1024 .bf16) (K : Dev nD × Fin 25 → ℕ)

/-- Some contents of a kept chunk of the result buffer. -/
abbrev someOut (c : Dev nD) (t j : Fin 2) : sProp 𝕄 := iprop(∃ X, own (F := F) c (outM t (keep t c) j) X)

/-- The chunks of the result that the first partner fills are those in the half device `c` does not keep. -/
theorem filled_zero (c : Dev nD) (j : Fin 2) : outM 0 (keep 0 (pA c)) j = outM 0 (other (keep 0 c)) j := by rw [keep_zero_pA]
theorem filled_one (c : Dev nD) (j : Fin 2) : outM 1 (keep 1 (pB c)) j = outM 1 (other (keep 1 c)) j := by rw [keep_one_pB]

/-- The transfers whose waits are left once transfers 0 to 8 are waited for, and once transfer 10 is too. -/
abbrev lastThree : Finset (Fin 12) := fromT 9
abbrev lastTwo : Finset (Fin 12) := (fromT 9).erase 10

theorem part11_run (c : Dev nD) (v3 v4 v20 : BitVec 32) (Kt : _ → sProp 𝕄) :
    iprop(ctx (xval a b) K ∗ mine c 0 0 (acc a b c 0 0) ∗ someOut (F := F) c 0 0 ∗ talk (F := F) c (fromT 8) (fromT 5) (fromT 4))
      ⊢ iprop(((mine c 0 0 (acc a b c 0 0) ∗ someBuf (F := F) c rb1M 0 0 ∗ talk (F := F) c (fromT 9) (fromT 5) (fromT 5)) -∗ Kt ⟨⟩)
        -∗ runs c (k0_part11 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3 v4 v20) Kt) := by
  rw [k0_part11_eq_skeleton]
  unfold k0_part11_skel
  simp only [Prog.lift, Prog.bind_op, Prog.bind_ret, Prog.pure_eq_ret]
  iintro ⟨#Hctx, P0, ⟨%Y, H⟩, HT⟩ Hk
  iapply (recv_step a b K c 4 (P := fromT 8) (R := fromT 4) (R' := fromT 5) (by decide) (by decide) (by decide) rfl (by exact rfl) (M := bufM rb1M 0 0) (V := narrow (acc a b (part2 0 c) 0 0)) rfl rfl) $$ [HT]
  · isplitr; · iexact Hctx
    iexact HT
  iintro ⟨R, HT⟩
  iapply (load_mine c 0 0 _ (off7_eq c 0)) $$ P0
  iintro P0
  iapply (load_buf c rb1M 0 0 _ rfl) $$ R
  iintro R
  iapply (load_out c 0 (keep 0 c) 0 Y (off7_eq c 0)) $$ H
  iintro H
  iapply (store_out c 0 (keep 0 c) 0 Y (off7_eq c 0)) $$ H
  iintro H
  rw [show k0_pay21 _ _ = res a b c 0 0 from pay21_eq (acc a b c 0 0) (narrow (acc a b (part2 0 c) 0 0))]
  iapply (send_step a b K c 8 (P := fromT 8) (S := fromT 5) (P' := fromT 9) (by decide) (by decide) (by decide) (dev11_eq c) (out_eq 0 (keep 0 c) 0 (off9_eq c 0)) (out_eq 0 (keep 0 c) 0 (off9_eq c 0)) rfl rfl (M := outM 0 (keep 0 c) 0) rfl rfl) $$ [H HT]
  · isplitr; · iexact Hctx
    isplitl [H]; · iexact H
    iexact HT
  iintro HT
  iapply (done c)
  iapply Hk
  isplitl [P0]; · iexact P0
  isplitl [R]; · iexists _; iexact R
  iexact HT

theorem part12_run (c : Dev nD) (v3 v4 v22 : BitVec 32) (Kt : _ → sProp 𝕄) :
    iprop(ctx (xval a b) K ∗ mine c 1 0 (acc a b c 1 0) ∗ someOut (F := F) c 1 0 ∗ talk (F := F) c (fromT 9) (fromT 5) (fromT 5))
      ⊢ iprop(((mine c 1 0 (acc a b c 1 0) ∗ someBuf (F := F) c sb1M 1 0 ∗ someBuf (F := F) c rb1M 1 0 ∗ talk (F := F) c (fromT 10) (fromT 6) (fromT 6)) -∗ Kt ⟨⟩)
        -∗ runs c (k0_part12 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3 v4 v22) Kt) := by
  rw [k0_part12_eq_skeleton]
  unfold k0_part12_skel
  simp only [Prog.lift, Prog.bind_op, Prog.bind_ret, Prog.pure_eq_ret]
  iintro ⟨#Hctx, P1, ⟨%Y, H⟩, HT⟩ Hk
  iapply (sent_step a b K c 5 (P := fromT 9) (S := fromT 5) (S' := fromT 6) (by decide) (by decide) (by decide) rfl (by exact rfl) (M := bufM sb1M 1 0) (V := narrow (acc a b c 1 0)) rfl rfl) $$ [HT]
  · isplitr; · iexact Hctx
    iexact HT
  iintro ⟨S, HT⟩
  iapply (recv_step a b K c 5 (P := fromT 9) (R := fromT 5) (R' := fromT 6) (by decide) (by decide) (by decide) rfl (by exact rfl) (M := bufM rb1M 1 0) (V := narrow (acc a b (part2 1 c) 1 0)) rfl rfl) $$ [HT]
  · isplitr; · iexact Hctx
    iexact HT
  iintro ⟨R, HT⟩
  iapply (load_mine c 1 0 _ (off8_eq c 0)) $$ P1
  iintro P1
  iapply (load_buf c rb1M 1 0 _ rfl) $$ R
  iintro R
  iapply (load_out c 1 (keep 1 c) 0 Y (off8_eq c 0)) $$ H
  iintro H
  iapply (store_out c 1 (keep 1 c) 0 Y (off8_eq c 0)) $$ H
  iintro H
  rw [show k0_pay22 _ _ = res a b c 1 0 from pay22_eq (acc a b c 1 0) (narrow (acc a b (part2 1 c) 1 0))]
  iapply (send_step a b K c 9 (P := fromT 9) (S := fromT 6) (P' := fromT 10) (by decide) (by decide) (by decide) (dev12_eq c) (out_eq 1 (keep 1 c) 0 (off10_eq c 0)) (out_eq 1 (keep 1 c) 0 (off10_eq c 0)) rfl rfl (M := outM 1 (keep 1 c) 0) rfl rfl) $$ [H HT]
  · isplitr; · iexact Hctx
    isplitl [H]; · iexact H
    iexact HT
  iintro HT
  iapply (done c)
  iapply Hk
  isplitl [P1]; · iexact P1
  isplitl [S]; · iexists _; iexact S
  isplitl [R]; · iexists _; iexact R
  iexact HT

theorem part13_run (c : Dev nD) (v3 v4 v20 : BitVec 32) (Kt : _ → sProp 𝕄) :
    iprop(ctx (xval a b) K ∗ mine c 0 1 (acc a b c 0 1) ∗ someOut (F := F) c 0 1 ∗ talk (F := F) c (fromT 10) (fromT 6) (fromT 6))
      ⊢ iprop(((mine c 0 1 (acc a b c 0 1) ∗ someBuf (F := F) c sb1M 0 1 ∗ someBuf (F := F) c rb1M 0 1 ∗ own c (outM 0 (keep 0 c) 1) (res a b c 0 1) ∗ talk (F := F) c (fromT 10) (fromT 7) (fromT 7)) -∗ Kt ⟨⟩)
        -∗ runs c (k0_part13 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3 v4 v20) Kt) := by
  rw [k0_part13_eq_skeleton]
  unfold k0_part13_skel
  simp only [Prog.lift, Prog.bind_op, Prog.bind_ret, Prog.pure_eq_ret]
  iintro ⟨#Hctx, P2, ⟨%Y, H⟩, HT⟩ Hk
  iapply (sent_step a b K c 6 (P := fromT 10) (S := fromT 6) (S' := fromT 7) (by decide) (by decide) (by decide) rfl (by exact rfl) (M := bufM sb1M 0 1) (V := narrow (acc a b c 0 1)) rfl rfl) $$ [HT]
  · isplitr; · iexact Hctx
    iexact HT
  iintro ⟨S, HT⟩
  iapply (recv_step a b K c 6 (P := fromT 10) (R := fromT 6) (R' := fromT 7) (by decide) (by decide) (by decide) rfl (by exact rfl) (M := bufM rb1M 0 1) (V := narrow (acc a b (part2 0 c) 0 1)) rfl rfl) $$ [HT]
  · isplitr; · iexact Hctx
    iexact HT
  iintro ⟨R, HT⟩
  iapply (load_mine c 0 1 _ (off7_eq c 1)) $$ P2
  iintro P2
  iapply (load_buf c rb1M 0 1 _ rfl) $$ R
  iintro R
  iapply (load_out c 0 (keep 0 c) 1 Y (off7_eq c 1)) $$ H
  iintro H
  iapply (store_out c 0 (keep 0 c) 1 Y (off7_eq c 1)) $$ H
  iintro H
  rw [show k0_pay23 _ _ = res a b c 0 1 from pay23_eq (acc a b c 0 1) (narrow (acc a b (part2 0 c) 0 1))]
  iapply (done c)
  iapply Hk
  isplitl [P2]; · iexact P2
  isplitl [S]; · iexists _; iexact S
  isplitl [R]; · iexists _; iexact R
  isplitl [H]; · iexact H
  iexact HT

theorem part14_run (c : Dev nD) (v3 v4 v22 : BitVec 32) (Kt : _ → sProp 𝕄) :
    iprop(ctx (xval a b) K ∗ mine c 1 1 (acc a b c 1 1) ∗ own c (outM 0 (keep 0 c) 1) (res a b c 0 1) ∗ someOut (F := F) c 1 1 ∗ talk (F := F) c (fromT 10) (fromT 7) (fromT 7))
      ⊢ iprop(((mine c 1 1 (acc a b c 1 1) ∗ someBuf (F := F) c sb1M 1 1 ∗ someBuf (F := F) c rb1M 1 1 ∗ own c (outM 1 (keep 1 c) 1) (res a b c 1 1) ∗ talk (F := F) c (fromT 11) (fromT 8) (fromT 8)) -∗ Kt ⟨⟩)
        -∗ runs c (k0_part14 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3 v4 v22) Kt) := by
  rw [k0_part14_eq_skeleton]
  unfold k0_part14_skel
  simp only [Prog.lift, Prog.bind_op, Prog.bind_ret, Prog.pure_eq_ret]
  iintro ⟨#Hctx, P3, G, ⟨%Y, H⟩, HT⟩ Hk
  iapply (send_step a b K c 10 (P := fromT 10) (S := fromT 7) (P' := fromT 11) (by decide) (by decide) (by decide) (dev13_eq c) (out_eq 0 (keep 0 c) 1 (off9_eq c 1)) (out_eq 0 (keep 0 c) 1 (off9_eq c 1)) rfl rfl (M := outM 0 (keep 0 c) 1) rfl rfl) $$ [G HT]
  · isplitr; · iexact Hctx
    isplitl [G]; · iexact G
    iexact HT
  iintro HT
  iapply (sent_step a b K c 7 (P := fromT 11) (S := fromT 7) (S' := fromT 8) (by decide) (by decide) (by decide) rfl (by exact rfl) (M := bufM sb1M 1 1) (V := narrow (acc a b c 1 1)) rfl rfl) $$ [HT]
  · isplitr; · iexact Hctx
    iexact HT
  iintro ⟨S, HT⟩
  iapply (recv_step a b K c 7 (P := fromT 11) (R := fromT 7) (R' := fromT 8) (by decide) (by decide) (by decide) rfl (by exact rfl) (M := bufM rb1M 1 1) (V := narrow (acc a b (part2 1 c) 1 1)) rfl rfl) $$ [HT]
  · isplitr; · iexact Hctx
    iexact HT
  iintro ⟨R, HT⟩
  iapply (load_mine c 1 1 _ (off8_eq c 1)) $$ P3
  iintro P3
  iapply (load_buf c rb1M 1 1 _ rfl) $$ R
  iintro R
  iapply (load_out c 1 (keep 1 c) 1 Y (off8_eq c 1)) $$ H
  iintro H
  iapply (store_out c 1 (keep 1 c) 1 Y (off8_eq c 1)) $$ H
  iintro H
  rw [show k0_pay24 _ _ = res a b c 1 1 from pay24_eq (acc a b c 1 1) (narrow (acc a b (part2 1 c) 1 1))]
  iapply (done c)
  iapply Hk
  isplitl [P3]; · iexact P3
  isplitl [S]; · iexists _; iexact S
  isplitl [R]; · iexists _; iexact R
  isplitl [H]; · iexact H
  iexact HT

theorem part15_run (c : Dev nD) (v3 : BitVec 32) (Kt : _ → sProp 𝕄) :
    iprop(ctx (xval a b) K ∗ own c (outM 1 (keep 1 c) 1) (res a b c 1 1) ∗ talk (F := F) c (fromT 11) (fromT 8) (fromT 8))
      ⊢ iprop(((own c (outM 0 (keep 0 c) 0) (res a b c 0 0) ∗ own c (outM 0 (other (keep 0 c)) 0) (res a b (part1 0 c) 0 0) ∗ own c (outM 0 (keep 0 c) 1) (res a b c 0 1) ∗ own c (outM 0 (other (keep 0 c)) 1) (res a b (part1 0 c) 0 1) ∗ talk (F := F) c ∅ lastTwo lastTwo) -∗ Kt ⟨⟩)
        -∗ runs c (k0_part15 aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7 c v3) Kt) := by
  rw [k0_part15_eq_skeleton]
  unfold k0_part15_skel
  simp only [Prog.lift, Prog.bind_op, Prog.bind_ret, Prog.pure_eq_ret]
  iintro ⟨#Hctx, H, HT⟩ Hk
  iapply (send_step a b K c 11 (P := fromT 11) (S := fromT 8) (P' := ∅) (by decide) (by decide) (by decide) (dev14_eq c) (out_eq 1 (keep 1 c) 1 (off10_eq c 1)) (out_eq 1 (keep 1 c) 1 (off10_eq c 1)) rfl rfl (M := outM 1 (keep 1 c) 1) rfl rfl) $$ [H HT]
  · isplitr; · iexact Hctx
    isplitl [H]; · iexact H
    iexact HT
  iintro HT
  iapply (sent_step a b K c 8 (P := ∅) (S := fromT 8) (S' := lastThree) (by decide) (by decide) (by decide) rfl (by exact rfl) (M := outM 0 (keep 0 c) 0) (V := res a b c 0 0) rfl rfl) $$ [HT]
  · isplitr; · iexact Hctx
    iexact HT
  iintro ⟨S0, HT⟩
  iapply (recv_step a b K c 8 (P := ∅) (R := fromT 8) (R' := lastThree) (by decide) (by decide) (by decide) rfl (by exact rfl) (M := outM 0 (other (keep 0 c)) 0) (V := res a b (part1 0 c) 0 0) (filled_zero c 0) rfl) $$ [HT]
  · isplitr; · iexact Hctx
    iexact HT
  iintro ⟨R0, HT⟩
  iapply (sent_step a b K c 10 (P := ∅) (S := lastThree) (S' := lastTwo) (by decide) (by decide) (by decide) rfl (by exact rfl) (M := outM 0 (keep 0 c) 1) (V := res a b c 0 1) rfl rfl) $$ [HT]
  · isplitr; · iexact Hctx
    iexact HT
  iintro ⟨S1, HT⟩
  iapply (recv_step a b K c 10 (P := ∅) (R := lastThree) (R' := lastTwo) (by decide) (by decide) (by decide) rfl (by exact rfl) (M := outM 0 (other (keep 0 c)) 1) (V := res a b (part1 0 c) 0 1) (filled_zero c 1) rfl) $$ [HT]
  · isplitr; · iexact Hctx
    iexact HT
  iintro ⟨R1, HT⟩
  iapply (done c)
  iapply Hk
  isplitl [S0]; · iexact S0
  isplitl [R0]; · iexact R0
  isplitl [S1]; · iexact S1
  isplitl [R1]; · iexact R1
  iexact HT

end Cert.Butterfly

end
-- ==== Proof.Whole.lean ====
/-
The whole body: from the operands and the buffers in any contents to the result buffer holding what the device ends up
with, and every semaphore at zero.
-/
module

public import proofs.«01_k».proof.Proof.Third

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1024x512 .bf16) (b : Dev nD → Vec F S512x1024 .bf16) (K : Dev nD × Fin 25 → ℕ)

/-- A program followed by the rest of it. -/
theorem seq {α β : Type} {Q : β → sProp 𝕄} (c : Dev nD) (p : Prog (TpuEff nD τ sig (Elt F) Λ₀ .tc) α) (k : α → Prog (TpuEff nD τ sig (Elt F) Λ₀ .tc) β) :
    runs c p (fun x => runs c (k x) Q) ⊢ runs c (p >>= k) Q := by
  unfold runs; rw [wp_bind]

/-- Some contents of all four chunks of an exchange buffer. -/
abbrev fourBufs (c : Dev nD) (M : Memref sig .tc .vmem S2x256x1024 .bf16) : sProp 𝕄 :=
  iprop(someBuf (F := F) c M 0 0 ∗ someBuf (F := F) c M 1 0 ∗ someBuf (F := F) c M 0 1 ∗ someBuf (F := F) c M 1 1)

/-- The kept chunks of the result buffer, in some contents. -/
abbrev keptOut (c : Dev nD) : sProp 𝕄 :=
  iprop(someOut (F := F) c 0 0 ∗ someOut (F := F) c 1 0 ∗ someOut (F := F) c 0 1 ∗ someOut (F := F) c 1 1)

/-- The eight chunks of the result buffer at the end: device `c`'s own sums, and the ones its first partners sent. -/
abbrev endOut (c : Dev nD) : sProp 𝕄 :=
  iprop(own c (outM 0 (keep 0 c) 0) (res a b c 0 0) ∗ own c (outM 1 (keep 1 c) 0) (res a b c 1 0)
    ∗ own c (outM 0 (keep 0 c) 1) (res a b c 0 1) ∗ own c (outM 1 (keep 1 c) 1) (res a b c 1 1)
    ∗ own c (outM 0 (other (keep 0 c)) 0) (res a b (part1 0 c) 0 0) ∗ own c (outM 1 (other (keep 1 c)) 0) (res a b (part1 1 c) 1 0)
    ∗ own c (outM 0 (other (keep 0 c)) 1) (res a b (part1 0 c) 0 1) ∗ own c (outM 1 (other (keep 1 c)) 1) (res a b (part1 1 c) 1 1))

/-- The float32 scratch at the end. -/
abbrev endAcc (c : Dev nD) : sProp 𝕄 :=
  iprop(mine c 0 0 (acc a b c 0 0) ∗ mine c 1 0 (acc a b c 1 0) ∗ mine c 0 1 (acc a b c 0 1) ∗ mine c 1 1 (acc a b c 1 1) ∗ pRest (F := F) c)

set_option maxHeartbeats 1600000 in
theorem body_run (c : Dev nD) (Z : Vec F S1024x1024 .f32) (w' : Vec F S512x1024 .bf16) (Kt : PUnit → sProp 𝕄) :
    iprop(ctx (xval a b) K ∗ before (F := F) c ∗ places (F := F) c ∗ own c aM (a c) ∗ own c bM (b c) ∗ own c pM Z ∗ own c b16M w'
        ∗ fourBufs (F := F) c sb0M ∗ fourBufs (F := F) c sb1M ∗ keptOut (F := F) c)
      ⊢ iprop(((semVal (barCell c) 0 ∗ talk (F := F) c ∅ ∅ ∅ ∗ own c aM (a c) ∗ own c bM (b c) ∗ own c b16M (b c) ∗ endAcc a b c
            ∗ fourBufs (F := F) c sb0M ∗ fourBufs (F := F) c rb0M ∗ fourBufs (F := F) c sb1M ∗ fourBufs (F := F) c rb1M ∗ endOut a b c) -∗ Kt ⟨⟩)
        -∗ runs c (cc0_body aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7) Kt) := by
  rw [cc0_body_eq_skeleton]
  unfold cc0_body_skel
  iintro ⟨#Hctx, HB, HPl, Ha, Hb, Hp, H16, ⟨A00, A10, A01, A11⟩, ⟨C00, C10, C01, C11⟩, O00, O10, O01, O11⟩ Hk
  iapply (seq c)
  iapply (part1_run (xval a b) K c (b c) w' _) $$ [HB HPl Hb H16]
  · isplitr; · iexact Hctx
    isplitl [HB]; · iexact HB
    isplitl [HPl]; · iexact HPl
    isplitl [Hb]; · iexact Hb
    iexact H16
  iintro %v3 %v4 %v20 %v22 %v25 %v26 %v ⟨HZ, HT, Hb, H16⟩
  try dsimp only
  rw [← fromT_zero]
  iapply (seq c)
  iapply (part2_run a b K c v3 v25 v26 v _) $$ [Ha H16 A00 A10 HT]
  · isplitr; · iexact Hctx
    isplitl [Ha]; · iexact Ha
    isplitl [H16]; · iexact H16
    isplitl [A00]; · iexact A00
    isplitl [A10]; · iexact A10
    iexact HT
  iintro %v28 ⟨Ha, H16, A10, HT⟩
  try dsimp only
  iapply (seq c)
  iapply (part3_run a b K c v3 v4 v25 _) $$ [Ha H16 A10 A01 HT]
  · isplitr; · iexact Hctx
    isplitl [Ha]; · iexact Ha
    isplitl [H16]; · iexact H16
    isplitl [A10]; · iexact A10
    isplitl [A01]; · iexact A01
    iexact HT
  iintro ⟨Ha, H16, A01, HT⟩
  try dsimp only
  iapply (seq c)
  iapply (part4_run a b K c v4 v20 v22 v28 Z _) $$ [Ha H16 Hp A01 A11 HT]
  · isplitr; · iexact Hctx
    isplitl [Ha]; · iexact Ha
    isplitl [H16]; · iexact H16
    isplitl [Hp]; · iexact Hp
    isplitl [A01]; · iexact A01
    isplitl [A11]; · iexact A11
    iexact HT
  iintro ⟨Ha, H16, Hp, HT⟩
  try dsimp only
  iapply (seq c)
  iapply (part5_run a b K c v3 v20 v22 Z _) $$ [Ha H16 Hp HT]
  · isplitr; · iexact Hctx
    isplitl [Ha]; · iexact Ha
    isplitl [H16]; · iexact H16
    isplitl [Hp]; · iexact Hp
    iexact HT
  iintro %v141 ⟨Ha, H16, P00, P10, P01, P11, PR, A00, B00, HT⟩
  try dsimp only
  iapply (seq c)
  iapply (part6_run a b K c v4 v141 _) $$ [P00 C00 HT]
  · isplitr; · iexact Hctx
    isplitl [P00]; · iexact P00
    isplitl [C00]; · iexact C00
    iexact HT
  iintro ⟨P00, A10, HT⟩
  try dsimp only
  iapply (seq c)
  iapply (part7_run a b K c v3 v22 _) $$ [P10 C10 HT]
  · isplitr; · iexact Hctx
    isplitl [P10]; · iexact P10
    isplitl [C10]; · iexact C10
    iexact HT
  iintro ⟨P10, B10, HT⟩
  try dsimp only
  iapply (seq c)
  iapply (part8_run a b K c v3 v20 _) $$ [P01 C01 HT]
  · isplitr; · iexact Hctx
    isplitl [P01]; · iexact P01
    isplitl [C01]; · iexact C01
    iexact HT
  iintro ⟨P01, A01, B01, C01, HT⟩
  try dsimp only
  iapply (seq c)
  iapply (part9_run a b K c v4 v22 _) $$ [P11 C01 HT]
  · isplitr; · iexact Hctx
    isplitl [P11]; · iexact P11
    isplitl [C01]; · iexact C01
    iexact HT
  iintro %v258 ⟨P11, A11, B11, HT⟩
  try dsimp only
  iapply (seq c)
  iapply (part10_run a b K c v3 v258 _) $$ [P11 B11 C11 HT]
  · isplitr; · iexact Hctx
    isplitl [P11]; · iexact P11
    isplitl [B11]; · iexact B11
    isplitl [C11]; · iexact C11
    iexact HT
  iintro ⟨P11, B11, C00, HT⟩
  try dsimp only
  iapply (seq c)
  iapply (part11_run a b K c v3 v4 v20 _) $$ [P00 O00 HT]
  · isplitr; · iexact Hctx
    isplitl [P00]; · iexact P00
    isplitl [O00]; · iexact O00
    iexact HT
  iintro ⟨P00, D00, HT⟩
  try dsimp only
  iapply (seq c)
  iapply (part12_run a b K c v3 v4 v22 _) $$ [P10 O10 HT]
  · isplitr; · iexact Hctx
    isplitl [P10]; · iexact P10
    isplitl [O10]; · iexact O10
    iexact HT
  iintro ⟨P10, C10, D10, HT⟩
  try dsimp only
  iapply (seq c)
  iapply (part13_run a b K c v3 v4 v20 _) $$ [P01 O01 HT]
  · isplitr; · iexact Hctx
    isplitl [P01]; · iexact P01
    isplitl [O01]; · iexact O01
    iexact HT
  iintro ⟨P01, C01, D01, O01, HT⟩
  try dsimp only
  iapply (seq c)
  iapply (part14_run a b K c v3 v4 v22 _) $$ [P11 O01 O11 HT]
  · isplitr; · iexact Hctx
    isplitl [P11]; · iexact P11
    isplitl [O01]; · iexact O01
    isplitl [O11]; · iexact O11
    iexact HT
  iintro ⟨P11, C11, D11, O11, HT⟩
  try dsimp only
  iapply (seq c)
  iapply (part15_run a b K c v3 _) $$ [O11 HT]
  · isplitr; · iexact Hctx
    isplitl [O11]; · iexact O11
    iexact HT
  iintro ⟨O00, Q00, O01, Q01, HT⟩
  try dsimp only
  simp only [Prog.lift, Prog.bind_op, Prog.bind_ret, Prog.pure_eq_ret]
  iapply (sent_step a b K c 9 (P := ∅) (S := lastTwo) (S' := fromT 11) (by decide) (by decide) (by decide) rfl (by exact rfl) (M := outM 1 (keep 1 c) 0) (V := res a b c 1 0) rfl rfl) $$ [HT]
  · isplitr; · iexact Hctx
    iexact HT
  iintro ⟨O10, HT⟩
  iapply (recv_step a b K c 9 (P := ∅) (R := lastTwo) (R' := fromT 11) (by decide) (by decide) (by decide) rfl (by exact rfl) (M := outM 1 (other (keep 1 c)) 0) (V := res a b (part1 1 c) 1 0) (filled_one c 0) rfl) $$ [HT]
  · isplitr; · iexact Hctx
    iexact HT
  iintro ⟨Q10, HT⟩
  iapply (sent_step a b K c 11 (P := ∅) (S := fromT 11) (S' := ∅) (by decide) (by decide) (by decide) rfl (by exact rfl) (M := outM 1 (keep 1 c) 1) (V := res a b c 1 1) rfl rfl) $$ [HT]
  · isplitr; · iexact Hctx
    iexact HT
  iintro ⟨O11, HT⟩
  iapply (recv_step a b K c 11 (P := ∅) (R := fromT 11) (R' := ∅) (by decide) (by decide) (by decide) rfl (by exact rfl) (M := outM 1 (other (keep 1 c)) 1) (V := res a b (part1 1 c) 1 1) (filled_one c 1) rfl) $$ [HT]
  · isplitr; · iexact Hctx
    iexact HT
  iintro ⟨Q11, HT⟩
  iapply (done c)
  iapply Hk
  isplitl [HZ]; · iexact HZ
  isplitl [HT]; · iexact HT
  isplitl [Ha]; · iexact Ha
  isplitl [Hb]; · iexact Hb
  isplitl [H16]; · iexact H16
  isplitl [P00 P10 P01 P11 PR]
  · isplitl [P00]; · iexact P00
    isplitl [P10]; · iexact P10
    isplitl [P01]; · iexact P01
    isplitl [P11]; · iexact P11
    iexact PR
  isplitl [A00 A10 A01 A11]
  · isplitl [A00]; · iexact A00
    isplitl [A10]; · iexact A10
    isplitl [A01]; · iexact A01
    iexact A11
  isplitl [B00 B10 B01 B11]
  · isplitl [B00]; · iexact B00
    isplitl [B10]; · iexact B10
    isplitl [B01]; · iexact B01
    iexact B11
  isplitl [C00 C10 C01 C11]
  · isplitl [C00]; · iexact C00
    isplitl [C10]; · iexact C10
    isplitl [C01]; · iexact C01
    iexact C11
  isplitl [D00 D10 D01 D11]
  · isplitl [D00]; · iexact D00
    isplitl [D10]; · iexact D10
    isplitl [D01]; · iexact D01
    iexact D11
  isplitl [O00]; · iexact O00
  isplitl [O10]; · iexact O10
  isplitl [O01]; · iexact O01
  isplitl [O11]; · iexact O11
  isplitl [Q00]; · iexact Q00
  isplitl [Q10]; · iexact Q10
  isplitl [Q01]; · iexact Q01
  iexact Q11

end Cert.Butterfly

end
-- ==== Proof.Obligation.lean ====
/-
The body as the pipeline runs it: what a device starts from and ends with, and that the body leads from one to the other.
-/
module

public import proofs.«01_k».proof.Proof.Whole

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)
variable {F : FTy → Type} [FloatOps F]

local notation "𝕄" => MT nD τ sig Unit (Elt F) ℕ UU ℕ

/-! ## Whole buffers -/

theorem own_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem own_of_buf (c : Dev nD) (b : Ref sig .tc) (f : Buf (Elt F) ((c : Thread nD τ).loc b)) :
    ((((c : Thread nD τ).loc b) ↦{fullShare} f) : sProp 𝕄) ⊢ owns (Ix := Unit) (Name := ℕ) (U := UU) (Lvl := ℕ) (c : Thread nD τ) (Memref.whole b) fullShare f := by
  rw [own_whole]; iintro H; iexists f; isplitr; · (ipureintro; rfl)
  iexact H

theorem buf_of_own (c : Dev nD) (b : Ref sig .tc) (X : b.ty.Contents (Elt F)) :
    (owns (Ix := Unit) (Name := ℕ) (U := UU) (Lvl := ℕ) (c : Thread nD τ) (Memref.whole b) fullShare X : sProp 𝕄)
      ⊢ iprop(∃ f : Buf (Elt F) ((c : Thread nD τ).loc b), ((c : Thread nD τ).loc b) ↦{fullShare} f) := by
  rw [own_whole]; iintro ⟨%f, -, H⟩; iexists f; iexact H

/-! ## The places of the transfers, from whole buffers and back -/

/-- The chunks of the result buffer that the first partners fill, in some contents. -/
abbrev filledOut (c : Dev nD) : sProp 𝕄 :=
  iprop((∃ X, own (F := F) c (outM 0 (other (keep 0 c)) 0) X) ∗ (∃ X, own (F := F) c (outM 1 (other (keep 1 c)) 0) X)
    ∗ (∃ X, own (F := F) c (outM 0 (other (keep 0 c)) 1) X) ∗ (∃ X, own (F := F) c (outM 1 (other (keep 1 c)) 1) X))

theorem twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem dst_eight (c : Dev nD) : dstM 8 (peer 8 c) = outM 0 (other (keep 0 c)) 0 := filled_zero c 0
theorem dst_nine (c : Dev nD) : dstM 9 (peer 9 c) = outM 1 (other (keep 1 c)) 0 := filled_one c 0
theorem dst_ten (c : Dev nD) : dstM 10 (peer 10 c) = outM 0 (other (keep 0 c)) 1 := filled_zero c 1
theorem dst_eleven (c : Dev nD) : dstM 11 (peer 11 c) = outM 1 (other (keep 1 c)) 1 := filled_one c 1

theorem places_of (c : Dev nD) : iprop(fourBufs (F := F) c rb0M ∗ fourBufs (F := F) c rb1M ∗ filledOut (F := F) c) ⊢ (places c : sProp 𝕄) := by
  unfold places
  rw [twelve, dst_eight, dst_nine, dst_ten, dst_eleven]
  iintro ⟨⟨B0, B1, B2, B3⟩, ⟨D0, D1, D2, D3⟩, Q0, Q1, Q2, Q3⟩
  isplitl [B0]; · iexact B0
  isplitl [B1]; · iexact B1
  isplitl [B2]; · iexact B2
  isplitl [B3]; · iexact B3
  isplitl [D0]; · iexact D0
  isplitl [D1]; · iexact D1
  isplitl [D2]; · iexact D2
  isplitl [D3]; · iexact D3
  isplitl [Q0]; · iexact Q0
  isplitl [Q1]; · iexact Q1
  isplitl [Q2]; · iexact Q2
  iexact Q3

theorem out_split (c : Dev nD) (X : Vec F S1024x1024 .bf16) : (own c oM X : sProp 𝕄) ⊢ iprop(keptOut (F := F) c ∗ filledOut (F := F) c) := by
  refine (rows_split c oM X).trans ?_
  rw [eight]
  iintro ⟨H1, H2, H3, H4, H5, H6, H7, H8⟩
  isplitl [H1 H2 H3 H4]
  · isplitl [H1]; · iexists _; iexact H1
    isplitl [H2]; · iexists _; iexact H2
    isplitl [H3]; · iexists _; iexact H3
    iexists _; iexact H4
  isplitl [H5]; · iexists _; iexact H5
  isplitl [H6]; · iexists _; iexact H6
  isplitl [H7]; · iexists _; iexact H7
  iexists _; iexact H8

theorem out_join (a : Dev nD → Vec F S1024x512 .bf16) (b : Dev nD → Vec F S512x1024 .bf16) (c : Dev nD) : (endOut a b c : sProp 𝕄) ⊢ own c oM (outAt a b c) := by
  unfold outAt
  iintro ⟨H1, H2, H3, H4, H5, H6, H7, H8⟩
  iapply (rows_join c oM fun p => res a b (if p.2.1 = 0 then c else part1 p.1 c) p.1 p.2.2)
  rw [eight]
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem four_join (c : Dev nD) (M : Memref sig .tc .vmem S2x256x1024 .bf16) : (fourBufs (F := F) c M : sProp 𝕄) ⊢ iprop(∃ X, own (F := F) c M X) := by
  iintro ⟨⟨%X0, H0⟩, ⟨%X1, H1⟩, ⟨%X2, H2⟩, ⟨%X3, H3⟩⟩
  iapply (buf_join c M fun p => if p = (0, 0) then X0 else if p = (1, 0) then X1 else if p = (0, 1) then X2 else X3)
  isplitl [H0]; · iexact H0
  isplitl [H1]; · iexact H1
  isplitl [H2]; · iexact H2
  iexact H3

/-! ## Contents, and the pipeline's data -/

section Run

variable (m : (ℓ : Loc nD τ sig) → Buf (Elt F) ℓ) (ρ : Dev nD → PrngReg)

def s₀ : MemSt nD τ sig (Elt F) := ⟨m, fun _ => 0, ρ⟩

/-- The operands of device `c`, as staged. -/
def leftOf (c : Dev nD) : (cc0_stg0_0 : Ref sig .tc).ty.Contents (Elt F) := (win0_0.blk (0 : Fin 1)).view.read (Elt F) ((s₀ m ρ).mem ((c : Thread nD τ).loc main_arg0))
def rightOf (c : Dev nD) : (cc0_stg1_0 : Ref sig .tc).ty.Contents (Elt F) := (win0_1.blk (0 : Fin 1)).view.read (Elt F) ((s₀ m ρ).mem ((c : Thread nD τ).loc main_arg1))
/-- The result of device `c`. -/
def resultOf (c : Dev nD) : (cc0_stg2_0 : Ref sig .tc).ty.Contents (Elt F) := outAt (leftOf m ρ) (rightOf m ρ) c

/-- What device `c` has of the exchange when the body begins, but for what it owes. -/
def dealt (c : Dev nD) : sProp 𝕄 :=
  iprop((dutyTok ER (barCell (pA c)) 0 false ∗ dutyTok ER (barCell (pB c)) 0 true)
    ∗ (atPos ER (barCell c) 0 ∅ 0 ∗ cred (tallyAt (barCell c) () 2))
    ∗ bigSep Finset.univ (fun k : Fin 12 => iprop(dutyTok ER (sendCell k c) 0 false ∗ dutyTok ER (recvCell k (peer k c)) 0 false))
    ∗ bigSep Finset.univ (fun k : Fin 12 => atPos ER (sendCell k c) 0 ∅ 0)
    ∗ bigSep Finset.univ (fun k : Fin 12 => iprop(atPos ER (recvCell k c) 0 ∅ 0 ∗ cred (tallyAt (recvCell k c) () N))))

def start (c : Dev nD) : sProp 𝕄 := iprop((∃ K, ctx (xval (leftOf m ρ) (rightOf m ρ)) K) ∗ dealt (F := F) c)

def Φ₀ (c : Dev nD) : sProp 𝕄 := iprop(start m ρ c ∗ Pipeline.scopedRest cfg0.spec c)
def Φ₁ (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => leftOf m ρ c
    | ⟨1, _⟩ => rightOf m ρ c
    | ⟨2, _⟩ => resultOf m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 3) ∗ Φ (1 : Fin 3) ∗ Φ (2 : Fin 3)) := bigSep_W0 Φ

/-! ## The semaphores at the end -/

/-- The kernel's own semaphores are the send and the receive semaphores. -/
theorem own_sems (c : Dev nD) : (Pipeline.ownSems0 (Ix := Unit) (Name := ℕ) (U := UU) (Lvl := ℕ) (Val := Elt F) (τ := τ) osem c : sProp 𝕄)
    = iprop(bigSep Finset.univ (fun k : Fin 12 => semVal (sendCell k c) 0) ∗ bigSep Finset.univ (fun k : Fin 12 => semVal (recvCell k c) 0)) := by
  have hu : (Finset.univ : Finset (Fin 24)) = (Finset.univ.map (Fin.castAddEmb 12)) ∪ (Finset.univ.map (Fin.natAddEmb 12)) := by decide
  unfold Pipeline.ownSems0
  rw [hu, bigSep_union (by decide), bigSep_map, bigSep_map]
  have h1 (k : Fin 12) : osem (Fin.castAddEmb 12 k) = .dma (sendS k) := by revert k; decide
  have h2 (k : Fin 12) : osem (Fin.natAddEmb 12 k) = .dma (recvS k) := by revert k; decide
  simp only [h1, h2]
  rfl

theorem barrier_sem (c : Dev nD) : (unscopedSems0 c : sProp 𝕄) = semVal (barCell c) 0 := by
  unfold unscopedSems0; rw [bigSep_eq_bigSepL_of_eq [SemLoc.reg barS] (by decide) (by decide)]; rfl

theorem talk_close (c : Dev nD) : (talk (F := F) c ∅ ∅ ∅ : sProp 𝕄)
    ⊢ iprop((∃ W, owes (c : Thread nD τ) 0 W) ∗ Pipeline.ownSems0 (Ix := Unit) (Name := ℕ) (U := UU) (Lvl := ℕ) (Val := Elt F) (τ := τ) osem c) := by
  unfold talk
  rw [own_sems, Finset.sdiff_empty, show dues c ∅ = 0 from Finset.sum_empty]
  iintro ⟨HO, -, -, -, -, HS, HR⟩
  isplitl [HO]; · iexact HO
  isplitl [HS]; · iexact HS
  iexact HR

/-! ## The body -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (leftOf m ρ c) ∗ stg c cc0_stg1_0 (rightOf m ρ c) ∗ stg c cc0_stg2_0 (resultOf m ρ c))

set_option maxHeartbeats 800000 in
theorem sound_body (c : Dev nD) : bodyPre m ρ c ⊢ runs c (cc0_body aM (Memref.isWhole_whole _) bM (Memref.isWhole_whole _) oM (Memref.isWhole_whole _) pM (Memref.isWhole_whole _) b16M (Memref.isWhole_whole _) sb0M (Memref.isWhole_whole _) rb0M (Memref.isWhole_whole _) sb1M (Memref.isWhole_whole _) rb1M (Memref.isWhole_whole _) cc0_scratch6 cc0_scratch7) (fun _ => bodyPost m ρ c) := by
  unfold bodyPre Φ₀ start
  rw [scopedRest0_eq]
  iintro ⟨⟨⟨⟨%K, #Hctx⟩, HD⟩, ⟨%f0, G0⟩, ⟨%f1, G1⟩, ⟨%f2, G2⟩, ⟨%f3, G3⟩, ⟨%f4, G4⟩, ⟨%f5, G5⟩⟩, Ho, ⟨%d0, %g0, %hg0, Ha⟩, ⟨%d1, %g1, %hg1, Hb⟩, ⟨%d2, %g2, %hg2, Hout⟩⟩
  have hx : g0 = leftOf m ρ c := by rw [hg0]; unfold Dat.before; rw [if_pos (show (cfg0.win (0 : Fin 3)).fetch t₀ = true from rfl)]; rfl
  have hy : g1 = rightOf m ρ c := by rw [hg1]; unfold Dat.before; rw [if_pos (show (cfg0.win (1 : Fin 3)).fetch t₀ = true from rfl)]; rfl
  subst hx hy
  unfold Dat.owesAt Pipeline.owesWithin
  icases Ho with ⟨%W, %hW, HO⟩
  rw [show (dats m ρ 0 c).owed t₀.castSucc = O₀ c from rfl]
  ihave Ha := (own_of_buf c cc0_stg0_0 _) $$ Ha
  ihave Hb := (own_of_buf c cc0_stg1_0 _) $$ Hb
  ihave Hout := (own_of_buf c cc0_stg2_0 _) $$ Hout
  ihave G0 := (own_of_buf c cc0_scratch0 _) $$ G0
  ihave G1 := (own_of_buf c cc0_scratch1 _) $$ G1
  ihave G2 := (own_of_buf c cc0_scratch2 _) $$ G2
  ihave G3 := (own_of_buf c cc0_scratch3 _) $$ G3
  ihave G4 := (own_of_buf c cc0_scratch4 _) $$ G4
  ihave G5 := (own_of_buf c cc0_scratch5 _) $$ G5
  ihave G2 := (buf_split c sb0M f2) $$ G2
  ihave G3 := (buf_split c rb0M f3) $$ G3
  ihave G4 := (buf_split c sb1M f4) $$ G4
  ihave G5 := (buf_split c rb1M f5) $$ G5
  ihave Hout := (out_split c g2) $$ Hout
  icases Hout with ⟨HK, HF⟩
  iapply (body_run (leftOf m ρ) (rightOf m ρ) K c f0 f1 fun _ => bodyPost m ρ c) $$ [HD HO Ha Hb G0 G1 G2 G3 G4 G5 HK HF]
  · isplitr; · iexact Hctx
    isplitl [HD HO]
    · unfold before dealt
      isplitl [HO]; · iexists W; iexact HO
      iexact HD
    isplitl [G3 G5 HF]
    · iapply (places_of c)
      isplitl [G3]; · iexact G3
      isplitl [G5]; · iexact G5
      iexact HF
    isplitl [Ha]; · iexact Ha
    isplitl [Hb]; · iexact Hb
    isplitl [G0]; · iexact G0
    isplitl [G1]; · iexact G1
    isplitl [G2]; · iexact G2
    isplitl [G4]; · iexact G4
    iexact HK
  iintro ⟨HZ, HT, Ha, Hb, G1, G0, G2, G3, G4, G5, Hout⟩
  ihave HT := (talk_close c) $$ HT
  icases HT with ⟨⟨%W', HO⟩, HS⟩
  ihave G0 := (p_join c (acc (leftOf m ρ) (rightOf m ρ) c)) $$ G0
  icases G0 with ⟨%Z0, G0⟩
  ihave G2 := (four_join c sb0M) $$ G2
  icases G2 with ⟨%Z2, G2⟩
  ihave G3 := (four_join c rb0M) $$ G3
  icases G3 with ⟨%Z3, G3⟩
  ihave G4 := (four_join c sb1M) $$ G4
  icases G4 with ⟨%Z4, G4⟩
  ihave G5 := (four_join c rb1M) $$ G5
  icases G5 with ⟨%Z5, G5⟩
  ihave Hout := (out_join (leftOf m ρ) (rightOf m ρ) c) $$ Hout
  ihave G0 := (buf_of_own c cc0_scratch0 _) $$ G0
  ihave G1 := (buf_of_own c cc0_scratch1 _) $$ G1
  ihave G2 := (buf_of_own c cc0_scratch2 _) $$ G2
  ihave G3 := (buf_of_own c cc0_scratch3 _) $$ G3
  ihave G4 := (buf_of_own c cc0_scratch4 _) $$ G4
  ihave G5 := (buf_of_own c cc0_scratch5 _) $$ G5
  ihave Ha := (Entails.of_eq (own_whole c cc0_stg0_0 _)) $$ Ha
  ihave Hb := (Entails.of_eq (own_whole c cc0_stg1_0 _)) $$ Hb
  ihave Hout := (Entails.of_eq (own_whole c cc0_stg2_0 _)) $$ Hout
  unfold bodyPost Φ₁ Dat.owesAt Pipeline.owesWithin
  rw [show (dats m ρ 0 c).owed t₀.succ = 0 from rfl, barrier_sem, scopedRest0_eq]
  isplitl [HZ HS G0 G1 G2 G3 G4 G5]
  · isplitl [HZ]; · iexact HZ
    isplitl [HS]; · iexact HS
    isplitl [G0]; · iexact G0
    isplitl [G1]; · iexact G1
    isplitl [G2]; · iexact G2
    isplitl [G3]; · iexact G3
    isplitl [G4]; · iexact G4
    iexact G5
  isplitl [HO]
  · iexists W'
    isplitr; · ipureintro; exact fun _ _ => Or.inl trivial
    iexact HO
  isplitl [Ha]; · iexact Ha
  isplitl [Hb]; · iexact Hb
  iexact Hout

/-- The body obligation of device `c`. -/
theorem body_obligation (c : Dev nD) : BodyObligation (dats (F := F) m ρ 0 c) (defs₀ (F := F)) 𝒱₀ () Set.univ := fun t => by
  rw [fin_N t]
  rw [bigSep_W, bigSep_W]
  simp only [own_whole]
  exact sound_body m ρ c

end Run

end Cert.Butterfly

end
-- ==== Proof.Launch.lean ====
/-
The launch: what each device is dealt at the start, the credit it gets from what the others owe it, and the run of the whole program from these.
-/
module

public import proofs.«01_k».proof.Proof.Obligation
public import Idealize.ShloMosaic.Lib.Pipeline.CollectiveSegs

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)
variable {F : FTy → Type} [FloatOps F]

local notation "𝕄" => MT nD τ sig Unit (Elt F) ℕ UU ℕ

/-! ## The cells of a device, by kind -/

theorem cells_split (Φ : Fin 25 → sProp 𝕄) : bigSep Finset.univ Φ
    = iprop(Φ barK ∗ bigSep Finset.univ (fun i : Fin 12 => Φ (sendK i)) ∗ bigSep Finset.univ (fun i : Fin 12 => Φ (recvK i))) := by
  have hu : (Finset.univ : Finset (Fin 25)) = {barK} ∪ (Finset.univ.map ⟨sendK, by decide⟩ ∪ Finset.univ.map ⟨recvK, by decide⟩) := by decide
  rw [hu, bigSep_union (by decide), bigSep_union (by decide), bigSep_map, bigSep_map, bigSep_singleton]
  rfl

theorem pointwise {I : Type} [DecidableEq I] (S : Finset I) {Φ Ψ : I → sProp 𝕄} (h : ∀ i, Φ i ⊢ Ψ i) : (bigSep S Φ : sProp 𝕄) ⊢ bigSep S Ψ :=
  bigSep_mono fun i _ => h i

/-- A fact that may be used many times goes to every member of a family. -/
theorem with_fact {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  have h1 : (bigSep S (fun i => iprop(R ∗ Φ i)) : sProp 𝕄) ⊢ bigSep S Ψ := pointwise S h
  rw [bigSep_sep'] at h1
  exact (sep_mono_left (BI.bigSep_of_persistent S R)).trans h1

theorem ownSemFacts : Pipeline.OwnSemFacts cfg0.spec osem := by decide

theorem csem_injective : Function.Injective csem := by decide
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_injective (congrArg (fun g : GSem nD τ sig => g.2) h)
  rw [h1, h2]
/-- The cells of the exchange. -/
def xCells : Finset (GSem nD τ sig) := Finset.univ.map ⟨kcell, kcell_injective⟩

abbrev tokOf (x : Dev nD × Fin 25 × Bool) : GSem nD τ sig × ℕ × Bool := (kcell (x.1, x.2.1), 0, x.2.2)
theorem tokOf_injective : Function.Injective (tokOf : Dev nD × Fin 25 × Bool → GSem nD τ sig × ℕ × Bool) := by
  rintro ⟨c, k, d⟩ ⟨c', k', d'⟩ h
  have h1 := kcell_injective (congrArg (fun x : GSem nD τ sig × ℕ × Bool => x.1) h)
  have h2 : d = d' := congrArg (fun x : GSem nD τ sig × ℕ × Bool => x.2.2) h
  simp only [Prod.mk.injEq] at h1
  rw [h1.1, h1.2, h2]
def xToks : Finset (GSem nD τ sig × ℕ × Bool) := Finset.univ.map ⟨tokOf, tokOf_injective⟩

def u₀ : UU := (initOf (Pipeline.cells cfgs cellOf_inj) (Pipeline.launchToks cfgs cellOf_inj), initOf xCells xToks)

section Deal

variable (X : Fin 12 → Dev nD → Vec F S128x1024 .bf16)

/-- Every token of device `c`'s own cells. -/
def allToks (c : Dev nD) : sProp 𝕄 := bigSep Finset.univ fun x : Fin 25 × Bool => dutyTok ER (kcell (c, x.1)) 0 x.2
/-- Those of them that stand for duties. -/
def ownToks (c : Dev nD) : sProp 𝕄 :=
  iprop((dutyTok ER (barCell c) 0 false ∗ dutyTok ER (barCell c) 0 true)
    ∗ bigSep Finset.univ (fun i : Fin 12 => dutyTok ER (sendCell i c) 0 false) ∗ bigSep Finset.univ (fun i : Fin 12 => dutyTok ER (recvCell i c) 0 false))
/-- The tokens of the duties that device `c` performs. -/
def payToks (c : Dev nD) : sProp 𝕄 :=
  iprop((dutyTok ER (barCell (pA c)) 0 false ∗ dutyTok ER (barCell (pB c)) 0 true)
    ∗ bigSep Finset.univ (fun i : Fin 12 => iprop(dutyTok ER (sendCell i c) 0 false ∗ dutyTok ER (recvCell i (peer i c)) 0 false)))
/-- Device `c`'s positions at its own cells. -/
def places₀ (c : Dev nD) : sProp 𝕄 :=
  iprop(atPos ER (barCell c) 0 ∅ 0 ∗ bigSep Finset.univ (fun i : Fin 12 => atPos ER (sendCell i c) 0 ∅ 0) ∗ bigSep Finset.univ (fun i : Fin 12 => atPos ER (recvCell i c) 0 ∅ 0))
/-- The facts about all cells. -/
def facts (K : Dev nD × Fin 25 → ℕ) : sProp 𝕄 :=
  bigSep Finset.univ fun ck : Dev nD × Fin 25 => iprop(cellInv ER (Rd X) (K ck) (kcell ck) ∗ reached ER (kcell ck) 0)

instance facts_persistent (K : Dev nD × Fin 25 → ℕ) : BI.Persistent (facts X K) := by unfold facts; infer_instance

/-- What device `c` is dealt, -/
def G (c : Dev nD) : sProp 𝕄 :=
  iprop((bigSep Finset.univ fun k : Fin 25 => roundState ER (Rd X) (kcell (c, k)) 0)
    ∗ (bigSep Finset.univ fun k : Fin 25 => atPos ER (kcell (c, k)) 0 ∅ 0) ∗ (bigSep Finset.univ fun k : Fin 25 => reached ER (kcell (c, k)) 0) ∗ allToks (F := F) c)
/-- and what becomes of it once the cells' invariants stand and the tokens have gone to the devices that need them. -/
def G' (c : Dev nD) : sProp 𝕄 := iprop(∃ K, facts X K ∗ places₀ (F := F) c ∗ payToks (F := F) c)

theorem keep_duties (c : Dev nD) : (allToks c : sProp 𝕄) ⊢ ownToks c := by
  have hb (k : Fin 25) : (bigSep Finset.univ fun d : Bool => (dutyTok ER (kcell (c, k)) 0 d : sProp 𝕄)) ⊢ dutyTok ER (kcell (c, k)) 0 false :=
    bigSep_elim (Finset.mem_univ false)
  have hs (i : Fin 12) : (bigSep Finset.univ fun d : Bool => (dutyTok ER (kcell (c, sendK i)) 0 d : sProp 𝕄)) ⊢ dutyTok ER (sendCell i c) 0 false := by
    rw [← kcell_send]; exact hb _
  have hr (i : Fin 12) : (bigSep Finset.univ fun d : Bool => (dutyTok ER (kcell (c, recvK i)) 0 d : sProp 𝕄)) ⊢ dutyTok ER (recvCell i c) 0 false := by
    rw [← kcell_recv]; exact hb _
  unfold allToks ownToks
  rw [bigSep_univ_prod (fun x : Fin 25 × Bool => (dutyTok ER (kcell (c, x.1)) 0 x.2 : sProp 𝕄)), cells_split,
    bigSep_univ_eq_bigSepL [false, true] (by decide) (by decide), bigSepL_cons_cons, bigSepL_singleton]
  show iprop((dutyTok ER (barCell c) 0 false ∗ dutyTok ER (barCell c) 0 true) ∗ _ ∗ _) ⊢ _
  iintro ⟨⟨B0, B1⟩, HS, HR⟩
  isplitl [B0 B1]
  · isplitl [B0]; · iexact B0
    iexact B1
  isplitl [HS]
  · iapply (pointwise Finset.univ hs); iexact HS
  iapply (pointwise Finset.univ hr); iexact HR

theorem own_places (c : Dev nD) : (bigSep Finset.univ fun k : Fin 25 => (atPos ER (kcell (c, k)) 0 ∅ 0 : sProp 𝕄)) = places₀ c := by
  unfold places₀
  rw [cells_split]
  simp only [kcell_send, kcell_recv]
  rfl

/-- A transfer's partner, and the transfer. -/
def swapAll : Dev nD × Fin 12 ≃ Dev nD × Fin 12 :=
  ⟨fun x => (peer x.2 x.1, x.2), fun x => (peer x.2 x.1, x.2), fun x => Prod.ext (peer_peer x.2 x.1) rfl, fun x => Prod.ext (peer_peer x.2 x.1) rfl⟩

theorem toks_around : (bigSep Finset.univ fun c : Dev nD => (ownToks c : sProp 𝕄)) ⊢ bigSep Finset.univ fun c : Dev nD => payToks c := by
  have hR : (bigSep Finset.univ fun c : Dev nD => bigSep Finset.univ fun i : Fin 12 => (dutyTok ER (recvCell i c) 0 false : sProp 𝕄))
      = bigSep Finset.univ fun c : Dev nD => bigSep Finset.univ fun i : Fin 12 => dutyTok ER (recvCell i (peer i c)) 0 false := by
    rw [← bigSep_univ_prod (fun x : Dev nD × Fin 12 => (dutyTok ER (recvCell x.2 x.1) 0 false : sProp 𝕄)),
      bigSep_univ_equiv swapAll (fun x : Dev nD × Fin 12 => (dutyTok ER (recvCell x.2 x.1) 0 false : sProp 𝕄)),
      bigSep_univ_prod]
    rfl
  unfold ownToks payToks
  simp only [bigSep_sep']
  rw [bigSep_univ_equiv swapA (fun c : Dev nD => (dutyTok ER (barCell c) 0 false : sProp 𝕄)),
    bigSep_univ_equiv swapB (fun c : Dev nD => (dutyTok ER (barCell c) 0 true : sProp 𝕄)), hR]
  iintro ⟨⟨H1, H2⟩, H3, H4⟩
  isplitl [H1 H2]
  · isplitl [H1]; · iexact H1
    iexact H2
  isplitl [H3]; · iexact H3
  iexact H4

theorem fund_all : BI.own (ER (initOf xCells xToks)) ⊢ (|==> bigSep Finset.univ (G X) : sProp 𝕄) := by
  have hX (Φ : GSem nD τ sig → sProp 𝕄) : bigSep xCells Φ = bigSep Finset.univ fun c : Dev nD => bigSep Finset.univ fun k : Fin 25 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => allToks c := by
    unfold xToks; rw [bigSep_map, bigSep_univ_prod]; rfl
  iintro H
  imod (Rounds.fund ER (Rd X) xCells xToks) $$ H with ⟨Hst, Hr, Hat, Htok⟩
  imodintro
  ihave Hst := (Entails.of_eq (hX fun g => roundState ER (Rd X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

theorem all_sems (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [own_sems, barrier_sem, cells_split]
  simp only [kcell_send, kcell_recv]
  iintro ⟨⟨HS, HR⟩, HB⟩
  isplitl [HB]; · iexact HB
  isplitl [HS]; · iexact HS
  iexact HR

theorem set_up (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => reached ER (kcell (c, k)) 0) ∗ places₀ (F := F) c ∗ ownToks (F := F) c) := by
  have hone (k : Fin 25) : iprop(semVal (kcell (c, k)) 0 ∗ roundState ER (Rd X) (kcell (c, k)) 0)
      ⊢ (|={Set.univ}=> iprop(∃ κ : ℕ, cellInv ER (Rd X) κ (kcell (c, k))) : sProp 𝕄) :=
    (Rounds.body_intro ER (Rd X) (kcell (c, k))).trans inv_alloc
  have hall : iprop((bigSep Finset.univ fun k : Fin 25 => semVal (kcell (c, k)) 0) ∗ bigSep Finset.univ fun k : Fin 25 => roundState ER (Rd X) (kcell (c, k)) 0)
      ⊢ (|={Set.univ}=> bigSep Finset.univ fun k => iprop(∃ κ : ℕ, cellInv ER (Rd X) κ (kcell (c, k))) : sProp 𝕄) := by
    rw [← bigSep_sep']
    exact (pointwise Finset.univ hone).trans (bigSep_fupd _ _)
  unfold G
  iintro ⟨Ho, Hu, Hst, Hat, Hr, Htok⟩
  ihave Hv := (all_sems (F := F) c) $$ [Ho Hu]
  · isplitl [Ho]; · iexact Ho
    iexact Hu
  imod hall $$ [Hv Hst] with Hinv
  · isplitl [Hv]; · iexact Hv
    iexact Hst
  imodintro
  isplitl [Hinv]; · iexact Hinv
  isplitl [Hr]; · iexact Hr
  isplitl [Hat]
  · iapply (Entails.of_eq (own_places (F := F) c)); iexact Hat
  iapply (keep_duties (F := F) c); iexact Htok

theorem hand_out :
    (bigSep Finset.univ fun c : Dev nD => iprop((bigSep Finset.univ fun k => iprop(∃ κ : ℕ, cellInv ER (Rd X) κ (kcell (c, k))))
          ∗ (bigSep Finset.univ fun k => reached ER (kcell (c, k)) 0) ∗ places₀ (F := F) c ∗ ownToks (F := F) c) : sProp 𝕄)
      ⊢ bigSep Finset.univ (G' X) := by
  have hG (K : Dev nD × Fin 25 → ℕ) (c : Dev nD) : iprop(facts X K ∗ (places₀ (F := F) c ∗ payToks (F := F) c)) ⊢ G' X c := by
    unfold G'; iintro H; iexists K; iexact H
  rw [bigSep_sep', bigSep_sep', bigSep_sep', ← bigSep_univ_prod (fun ck : Dev nD × Fin 25 => iprop(∃ κ : ℕ, cellInv ER (Rd X) κ (kcell ck))),
    ← bigSep_univ_prod (fun ck : Dev nD × Fin 25 => (reached ER (kcell ck) 0 : sProp 𝕄))]
  iintro ⟨HI, #HR, Hp, Htok⟩
  ihave HK := (BI.bigSep_exists_pi Finset.univ (fun (ck : Dev nD × Fin 25) (κ : ℕ) => (cellInv ER (Rd X) κ (kcell ck) : sProp 𝕄))) $$ HI
  icases HK with ⟨%K, #HI⟩
  ihave Htok := (toks_around (F := F)) $$ Htok
  iapply (with_fact (R := facts X K) fun c => hG K c)
  isplitr
  · unfold facts
    rw [bigSep_sep']
    isplitl; · iexact HI
    iexact HR
  rw [bigSep_sep']
  isplitl [Hp]; · iexact Hp
  iexact Htok

/-- All devices at once: the invariants, and the tokens where they are needed. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((pointwise Finset.univ fun c => set_up X c).trans (bigSep_fupd _ _)).trans (BI.fupd_mono (hand_out X))

end Deal

/-! ## What a device may expect from the others -/

theorem bar_eq {a b : Dev nD} (h : barCell a = barCell b) : a = b := congrArg (fun g : GSem nD τ sig => g.1.1) h
theorem recv_eq {i j : Fin 12} {a b : Dev nD} (h : recvCell i a = recvCell j b) : i = j ∧ a = b := by
  refine ⟨?_, congrArg (fun g : GSem nD τ sig => g.1.1) h⟩
  have h2 : (SemLoc.dma (recvS i) : SemLoc sig) = .dma (recvS j) := congrArg (fun g : GSem nD τ sig => g.2) h
  have h3 := congrArg xferOf (SemLoc.dma.inj h2)
  rwa [xferOf_recv, xferOf_recv] at h3
theorem bar_ne_recv (i : Fin 12) (a b : Dev nD) : barCell a ≠ recvCell i b := fun h => by
  have h2 : (SemLoc.reg barS : SemLoc sig) = .dma (recvS i) := congrArg (fun g : GSem nD τ sig => g.2) h
  cases h2

theorem dues_bar (d c : Dev nD) : dues d Finset.univ (barCell c) () = 0 := by
  rw [dues_apply]; exact Finset.sum_eq_zero fun k _ => if_neg fun h => bar_ne_recv k c _ h.1
theorem dues_recv (d c : Dev nD) (i : Fin 12) : dues d Finset.univ (recvCell i c) () = if d = peer i c then N else 0 := by
  rw [dues_apply, Finset.sum_eq_single i (fun k _ hk => if_neg fun h => hk (recv_eq h.1).1.symm) (fun h => absurd (Finset.mem_univ i) h)]
  by_cases h : d = peer i c
  · rw [if_pos h, if_pos ⟨by rw [h, peer_peer], rfl⟩]
  · rw [if_neg h, if_neg fun h' => h (by rw [(recv_eq h'.1).2, peer_peer])]

theorem O₀_apply (d : Dev nD) (g : GSem nD τ sig) : O₀ d g () = dues d Finset.univ g () + tallyAt (barCell (pB d)) () 1 g () + tallyAt (barCell (pA d)) () 1 g () := rfl

theorem owed_bar (d c : Dev nD) : O₀ d (barCell c) () = (if d = pB c then 1 else 0) + (if d = pA c then 1 else 0) := by
  rw [O₀_apply, dues_bar, tallyAt_apply, tallyAt_apply, Nat.zero_add]
  congr 1
  · by_cases h : d = pB c
    · rw [if_pos h, if_pos ⟨by rw [h, pB_pB], rfl⟩]
    · rw [if_neg h, if_neg fun h' => h (by rw [bar_eq h'.1, pB_pB])]
  · by_cases h : d = pA c
    · rw [if_pos h, if_pos ⟨by rw [h, pA_pA], rfl⟩]
    · rw [if_neg h, if_neg fun h' => h (by rw [bar_eq h'.1, pA_pA])]

theorem owed_recv (d c : Dev nD) (i : Fin 12) : O₀ d (recvCell i c) () = if d = peer i c then N else 0 := by
  rw [O₀_apply, dues_recv, tallyAt_apply, tallyAt_apply, if_neg (fun h => bar_ne_recv i _ c h.1.symm : ¬ (recvCell i c = barCell (pB d) ∧ () = ())),
    if_neg (fun h => bar_ne_recv i _ c h.1.symm : ¬ (recvCell i c = barCell (pA d) ∧ () = ()))]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pB c) fun _ => 1, Finset.sum_ite_eq' Finset.univ (pA c) fun _ => 1, if_pos (Finset.mem_univ _), if_pos (Finset.mem_univ _)]

theorem launch_recv (i : Fin 12) (c : Dev nD) :
    tallyOn (recvCell i c) (launchCredit (Pipeline.owing O₀) 0 (recvCell i c)) = (tallyAt (recvCell i c) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (peer i c) fun _ => N,
    if_pos (Finset.mem_univ _)]

theorem recvS_injective : Function.Injective fun i : Fin 12 => (SemLoc.dma (recvS i) : SemLoc sig) := by decide

theorem creds (c : Dev nD) :
    (Pipeline.launchCred O₀ c : sProp 𝕄) ⊢ iprop(cred (tallyAt (barCell c) () 2) ∗ bigSep Finset.univ (fun i : Fin 12 => cred (tallyAt (recvCell i c) () N))) := by
  have hsub : (Finset.univ.map ⟨_, recvS_injective⟩ : Finset (SemLoc sig)) ⊆ Finset.univ.erase (SemLoc.reg barS) := by
    intro sm h
    obtain ⟨i, -, rfl⟩ := Finset.mem_map.mp h
    exact Finset.mem_erase.mpr ⟨(fun h => by cases h), Finset.mem_univ _⟩
  have hr (i : Fin 12) := launch_recv i c
  unfold Pipeline.launchCred
  rw [bigSep_univ_at _ (SemLoc.reg barS), launch_bar, bigSep_sdiff_split hsub, bigSep_map]
  simp only [← hr]
  show iprop(_ ∗ bigSep Finset.univ (fun i : Fin 12 => cred (tallyOn (recvCell i c) (launchCredit (Pipeline.owing O₀) 0 (recvCell i c)))) ∗ _) ⊢ _
  iintro ⟨HB, HR, -⟩
  isplitl [HB]; · iexact HB
  iexact HR

section Run

variable (m : (ℓ : Loc nD τ sig) → Buf (Elt F) ℓ) (ρ : Dev nD → PrngReg)

abbrev moved : Fin 12 → Dev nD → Vec F S128x1024 .bf16 := xval (leftOf m ρ) (rightOf m ρ)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (moved m ρ) c)
      ⊢ |={Set.univ}=> iprop(start m ρ c ∗ emp) := by
  iintro ⟨-, Hlev, Hcr, -, HG⟩
  ihave Hc := (creds (F := F) c) $$ Hcr
  icases Hc with ⟨HcB, HcR⟩
  imodintro
  unfold start G' facts places₀ payToks
  icases HG with ⟨%K, HF, ⟨PB, PS, PR⟩, TB, TT⟩
  isplitl
  · isplitl [HF Hlev]
    · iexists K
      unfold ctx
      isplitl [HF]; · iexact HF
      iexact Hlev
    unfold dealt
    isplitl [TB]; · iexact TB
    isplitl [PB HcB]
    · isplitl [PB]; · iexact PB
      iexact HcB
    isplitl [TT]; · iexact TT
    isplitl [PS]; · iexact PS
    rw [bigSep_sep']
    isplitl [PR]; · iexact PR
    iexact HcR
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl]
  unfold Φ₁
  iintro H; iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- What the array of window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values and from any memory with zero counters, the program ends, each device's arrays hold what the
    schedule computes, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (moved m ρ)) (G' := G' (moved m ρ)) (u₀ := u₀)
    (hu₀ := by
      unfold u₀
      iintro Hu
      ihave H := (ownU_pair _ _) $$ Hu
      icases H with ⟨HP, HX⟩
      imod (fund_all (moved m ρ)) $$ HX with HG
      imodintro
      isplitl [HP] <;> iassumption)
    (hglob := glob (moved m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were. -/
theorem finalA_left (c : Dev nD) : finalA m ρ c (0 : Fin 3) = (s₀ m ρ).mem ((c : Thread nD τ).loc main_arg0) :=
  (dats (F := F) m ρ 0 c).arrAt_in (0 : Fin 3) rfl _
theorem finalA_right (c : Dev nD) : finalA m ρ c (1 : Fin 3) = (s₀ m ρ).mem ((c : Thread nD τ).loc main_arg1) :=
  (dats (F := F) m ρ 0 c).arrAt_in (1 : Fin 3) rfl _

end Run

end Cert.Butterfly

end
-- ==== Proof.Sums.lean ====
/-
The values, read exactly: at extended reals, where a change of format is the identity and addition may be regrouped,
every entry of the result is the sum of the four devices' products, whichever device holds it. Then the result array of
each device after the run, and the same entry of one product of the whole operands.
-/
module

public import proofs.«01_k».proof.Proof.Launch
public import proofs.«01_k».proof.Proof.Gen.KernelIdeal.Points
public import Idealize.ShloMosaic.PureOps.Ideal
public import Idealize.ShloMosaic.PureOps.Ideal.Laws
public import Idealize.ShloMosaic.Lib.MatmulPlain
public import Idealize.ShloMosaic.Lib.StackMember
public import Idealize.ShloMosaic.Lib.Layout

@[expose] public section

noncomputable section

namespace Cert.Butterfly

open Cert.KernelIdeal Cert.KernelIdeal.Gen
open Idealize.ShloMosaic
open Idealize.ShloMosaic.TcCoe
open Idealize.ShloMosaic.ValueIdx
open Idealize.SL Idealize.SL.Sem
open Idealize.ShloMosaic.Pipeline (Dat Cfg Window Window.rect_emb_val_of_index_zero BodyObligation cellOf)

/-! ## Products -/

/-- Row `r` of a left block times column `q` of a right block. -/
def dotOf (A : Vec Ideal S1024x512 .bf16) (B : Vec Ideal S512x1024 .bf16) (i : S1024x1024.Idx) : EReal :=
  ∑ k : Fin 512, A (ix2 (i 0) k) * B (ix2 k (i 1))

theorem prod128_apply (x : Vec Ideal S128x512 .bf16) (w : Vec Ideal S512x1024 .bf16) (y : S128x1024.Idx) :
    prod128 x w y = ∑ k : Fin 512, x (ix2 (y 0) k) * w (ix2 k (y 1)) := by
  obtain ⟨r, q, rfl⟩ : ∃ (r : Fin 128) (q : Fin 1024), y = ix2 r q := ⟨y 0, y 1, eq_ix2 y⟩
  have h := Ideal.matmul_plain_apply (M := 128) (K := 512) (N := 1024) (φ₁ := .bf16) (φ₂ := .bf16) none x w (constant S128x1024 .f32 0x00000000#32) r q
  refine h.trans ?_
  show Ideal.ofBits .f32 0x00000000#32 + _ = _
  rw [Ideal.ofBits_zero_f32, zero_add]

theorem prod256_apply (x : Vec Ideal S256x512 .bf16) (w : Vec Ideal S512x1024 .bf16) (y : S256x1024.Idx) :
    prod256 x w y = ∑ k : Fin 512, x (ix2 (y 0) k) * w (ix2 k (y 1)) := by
  obtain ⟨r, q, rfl⟩ : ∃ (r : Fin 256) (q : Fin 1024), y = ix2 r q := ⟨y 0, y 1, eq_ix2 y⟩
  have h := Ideal.matmul_plain_apply (M := 256) (K := 512) (N := 1024) (φ₁ := .bf16) (φ₂ := .bf16) none x w (constant S256x1024 .f32 0x00000000#32) r q
  refine h.trans ?_
  show Ideal.ofBits .f32 0x00000000#32 + _ = _
  rw [Ideal.ofBits_zero_f32, zero_add]

/-- A chunk's product is those rows of the block's product. -/
theorem chunk_dot (A : Vec Ideal S1024x512 .bf16) (B : Vec Ideal S512x1024 .bf16) (t h j : Fin 2) (y : S128x1024.Idx) :
    prod128 (rowsA A t h j) B y = dotOf A B ((rowR t h j).emb y) := by
  rw [prod128_apply]
  unfold dotOf
  refine Finset.sum_congr rfl fun k _ => ?_
  have e1 : (arowR t h j).emb (ix2 (y 0) k) = ix2 ((rowR t h j).emb y 0) k := by
    funext a; fin_cases a
    · exact Fin.ext (by simp only [ValueKit.rect_emb_unit_val]; first | rfl | exact (Nat.zero_add _).symm | exact Nat.zero_add _ | (show 0 + _ = 0 + (0 + _); omega))
    · exact Fin.ext (by simp only [ValueKit.rect_emb_unit_val]; first | rfl | exact (Nat.zero_add _).symm | exact Nat.zero_add _ | (show 0 + _ = 0 + (0 + _); omega))
  have e2 : (y 1 : Fin 1024) = (rowR t h j).emb y 1 := Fin.ext (by simp only [ValueKit.rect_emb_unit_val]; first | rfl | exact (Nat.zero_add _).symm | exact Nat.zero_add _ | (show 0 + _ = 0 + (0 + _); omega))
  show A ((arowR t h j).emb (ix2 (y 0) k)) * B (ix2 k (y 1)) = _
  rw [e1, e2]
  rfl

/-- So is a chunk of a half's product. -/
theorem half_dot (A : Vec Ideal S1024x512 .bf16) (B : Vec Ideal S512x1024 .bf16) (t h j : Fin 2) (y : S128x1024.Idx) :
    rowsOf (prod256 (halfA A t h) B) j y = dotOf A B ((rowR t h j).emb y) := by
  show prod256 (halfA A t h) B ((subR j).emb y) = _
  rw [prod256_apply, row_of_half]
  unfold dotOf
  refine Finset.sum_congr rfl fun k _ => ?_
  have e1 : (ahalfR t h).emb (ix2 ((subR j).emb y 0) k) = ix2 ((halfR t h).emb ((subR j).emb y) 0) k := by
    funext a; fin_cases a
    · exact Fin.ext (by simp only [ValueKit.rect_emb_unit_val]; first | rfl | exact (Nat.zero_add _).symm | exact Nat.zero_add _ | (show 0 + _ = 0 + (0 + _); omega))
    · exact Fin.ext (by simp only [ValueKit.rect_emb_unit_val]; first | rfl | exact (Nat.zero_add _).symm | exact Nat.zero_add _ | (show 0 + _ = 0 + (0 + _); omega))
  have e2 : ((subR j).emb y 1 : Fin 1024) = (halfR t h).emb ((subR j).emb y) 1 := Fin.ext (by simp only [ValueKit.rect_emb_unit_val]; first | rfl | exact (Nat.zero_add _).symm | exact Nat.zero_add _ | (show 0 + _ = 0 + (0 + _); omega))
  show A ((ahalfR t h).emb (ix2 ((subR j).emb y 0) k)) * B (ix2 k ((subR j).emb y 1)) = _
  rw [e1, e2]
  rfl

/-! ## The exchange -/

theorem keep_part1 (t : Fin 2) (c : Dev nD) : keep t (part1 t c) = other (keep t c) := by revert t c; decide
theorem other_part1 (t : Fin 2) (c : Dev nD) : other (keep t (part1 t c)) = keep t c := by revert t c; decide
theorem keep_part2 (t : Fin 2) (c : Dev nD) : keep t (part2 t c) = keep t c := by revert t c; decide

theorem keep_side (t s : Fin 2) (c : Dev nD) : keep t (if s = 0 then c else part1 t c) = side s (keep t c) := by revert t s c; decide

/-- A device, its first partner, its second partner and that one's first partner. -/
def team (t : Fin 2) (c : Dev nD) : Fin 4 → Dev nD := ![c, part1 t c, part2 t c, part1 t (part2 t c)]
/-- They are all the devices. -/
theorem team_all (t : Fin 2) (c : Dev nD) : Function.Bijective (team t c) := by revert t c; decide

theorem sum_team (t : Fin 2) (c : Dev nD) (f : Dev nD → EReal) :
    f c + f (part1 t c) + (f (part2 t c) + f (part1 t (part2 t c))) = ∑ d, f d := by
  rw [← (team_all t c).sum_comp f, Fin.sum_univ_four, ← add_assoc]; rfl

section Exchange

variable (a : Dev nD → Vec Ideal S1024x512 .bf16) (b : Dev nD → Vec Ideal S512x1024 .bf16)

theorem acc_val (c : Dev nD) (t j : Fin 2) (y : S128x1024.Idx) :
    acc a b c t j y = dotOf (a c) (b c) ((rowR t (keep t c) j).emb y) + dotOf (a (part1 t c)) (b (part1 t c)) ((rowR t (keep t c) j).emb y) := by
  show rowsOf (prod256 (halfA (a c) t (keep t c)) (b c)) j y
    + prod128 (rowsA (a (part1 t c)) t (other (keep t (part1 t c))) j) (b (part1 t c)) y = _
  rw [half_dot, chunk_dot, other_part1]

theorem res_val (c : Dev nD) (t j : Fin 2) (y : S128x1024.Idx) :
    res a b c t j y = ∑ d, dotOf (a d) (b d) ((rowR t (keep t c) j).emb y) := by
  show acc a b c t j y + acc a b (part2 t c) t j y = _
  rw [acc_val, acc_val, keep_part2]
  exact sum_team t c fun d => dotOf (a d) (b d) ((rowR t (keep t c) j).emb y)

/-- Every entry of the result on every device is the sum of the four devices' products. -/
theorem out_val (c : Dev nD) (i : S1024x1024.Idx) : outAt a b c i = ∑ d, dotOf (a d) (b d) i := by
  have hi : i ∈ (Finset.univ : Finset (Fin 2 × Fin 2 × Fin 2)).biUnion (fun p => (famR c p).set) := by rw [famR_cover]; exact Finset.mem_univ i
  obtain ⟨p, -, hp⟩ := Finset.mem_biUnion.mp hi
  rw [← Rect.map_emb_univ, Finset.mem_map] at hp
  obtain ⟨y, -, rfl⟩ := hp
  unfold outAt
  refine (joined_emb c _ p y).trans ?_
  rw [res_val]
  obtain ⟨t, s, j⟩ := p
  have hk := keep_side t s c
  show ∑ d, dotOf (a d) (b d) ((rowR t (keep t (if s = 0 then c else part1 t c)) j).emb y) = _
  rw [hk]

end Exchange

/-! ## One product of the whole operands -/

/-- A sum over 2048 terms, in four runs of 512. -/
theorem sum_runs (g : Fin 2048 → EReal) : ∑ k, g k = ∑ d : Fin 4, ∑ k : Fin 512, g ⟨d.val * 512 + k.val, by omega⟩ := by
  show ∑ k : Fin (4 * 512), g k = _
  rw [← (finProdFinEquiv (m := 4) (n := 512)).sum_comp, Fintype.sum_prod_type]
  refine Finset.sum_congr rfl fun d _ => Finset.sum_congr rfl fun k _ => congrArg g (Fin.ext ?_)
  show k.val + 512 * d.val = d.val * 512 + k.val
  omega

/-- The devices' products add up to the product of the operands they are cut from. -/
theorem whole_dot (A : (⟨2, ![1024, 2048]⟩ : Shape).Idx → EReal) (B : (⟨2, ![2048, 1024]⟩ : Shape).Idx → EReal)
    (hA : Layout.Tiles ⟨2, ![1024, 512]⟩ ⟨2, ![1024, 2048]⟩ 1 4) (hB : Layout.Tiles ⟨2, ![512, 1024]⟩ ⟨2, ![2048, 1024]⟩ 0 4) (i : S1024x1024.Idx) :
    ∑ d : Dev nD, dotOf (Layout.block ⟨2, ![1024, 512]⟩ ⟨2, ![1024, 2048]⟩ 1 4 d A hA) (Layout.block ⟨2, ![512, 1024]⟩ ⟨2, ![2048, 1024]⟩ 0 4 d B hB) i
      = ∑ k : Fin 2048, A (ix2 (i 0) k) * B (ix2 k (i 1)) := by
  rw [sum_runs]
  refine Finset.sum_congr rfl fun d _ => Finset.sum_congr rfl fun k _ => ?_
  rw [Layout.block_apply, Layout.block_apply]
  congr 2
  · funext x; fin_cases x
    · exact Fin.ext rfl
    · exact Fin.ext rfl
  · funext x; fin_cases x
    · exact Fin.ext rfl
    · exact Fin.ext rfl

/-! ## The result array after the run -/

section After

variable {F : FTy → Type} [FloatOps F] (m : (ℓ : Loc nD τ sig) → Buf (Elt F) ℓ) (ρ : Dev nD → PrngReg)

/-- Each window's block is its whole array. -/
theorem emb_left (i : S1024x512.Idx) : (win0_0.blk (0 : Fin 1)).view.emb i = i := by
  funext x; fin_cases x
  · exact Fin.ext (Window.rect_emb_val_of_index_zero win0_0 (0 : Fin 1) 0 rfl i)
  · exact Fin.ext (Window.rect_emb_val_of_index_zero win0_0 (0 : Fin 1) 1 rfl i)
theorem emb_right (i : S512x1024.Idx) : (win0_1.blk (0 : Fin 1)).view.emb i = i := by
  funext x; fin_cases x
  · exact Fin.ext (Window.rect_emb_val_of_index_zero win0_1 (0 : Fin 1) 0 rfl i)
  · exact Fin.ext (Window.rect_emb_val_of_index_zero win0_1 (0 : Fin 1) 1 rfl i)
theorem emb_out (i : S1024x1024.Idx) : (win0_2.blk (0 : Fin 1)).view.emb i = i := by
  funext x; fin_cases x
  · exact Fin.ext (Window.rect_emb_val_of_index_zero win0_2 (0 : Fin 1) 0 rfl i)
  · exact Fin.ext (Window.rect_emb_val_of_index_zero win0_2 (0 : Fin 1) 1 rfl i)

theorem leftOf_eq (c : Dev nD) : leftOf m ρ c = m ((c : Thread nD τ).loc main_arg0) :=
  funext fun i => congrArg (m ((c : Thread nD τ).loc main_arg0)) (emb_left i)
theorem rightOf_eq (c : Dev nD) : rightOf m ρ c = m ((c : Thread nD τ).loc main_arg1) :=
  funext fun i => congrArg (m ((c : Thread nD τ).loc main_arg1)) (emb_right i)

theorem flushed_out (c : Dev nD) : (dats m ρ 0 c).flushed (2 : Fin 3) t₀ = (win0_2.blk (0 : Fin 1)).view.read (Elt F) (resultOf m ρ c) :=
  funext fun i => (congrArg (resultOf m ρ c) (emb_out i)).symm

theorem finalA_out (c : Dev nD) : finalA m ρ c (2 : Fin 3) = resultOf m ρ c :=
  (dats m ρ 0 c).arrAt_eq_of_cover (2 : Fin 3) (resultOf m ρ c) (fun t _ => by rw [fin_N t]; exact flushed_out m ρ c)
    (fun i => ⟨t₀, flush0_2 t₀, by
      show i ∈ (win0_2.blk (0 : Fin 1)).view.set
      exact Finset.mem_map.mpr ⟨i, Finset.mem_univ _, emb_out i⟩⟩)

end After

end Cert.Butterfly

end
-- ==== Proof.Texts.lean ====
/-
The kernel and its reading at exact values have the same text: the same functions behind the same labels, and the same main program.
-/
module

public import proofs.«01_k».proof.Defs
public import proofs.«01_k».proof.Proof.Gen.Kernel
public import proofs.«01_k».proof.Proof.Gen.KernelIdeal

@[expose] public section

noncomputable section

namespace Cert.Butterfly

open Idealize.ShloMosaic

variable {F : FTy → Type} [FloatOps F]

/-- The kernels behind the labels are the same. -/
theorem same_kernels : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (t, s) => exact rfl

/-- So are the tables with the pipelines around them, -/
theorem same_defs : Cert.Kernel.defs (F := F) = Cert.KernelIdeal.defs (F := F) := congrArg (Pipeline.defs Cert.KernelIdeal.pcfgs) same_kernels
/-- and the main programs. -/
theorem same_main : Cert.Kernel.main (F := F) = Cert.KernelIdeal.main (F := F) := rfl

end Cert.Butterfly

end
-- ==== Proof.lean ====
/- The proof of the five claims: the two frames of the kernel from its one run, the reference's frame, the equality of
   the two texts, and that every device's result is the product of the whole operands. -/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Sums
public import proofs.«01_k».proof.Proof.Texts
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

section KernelRun

variable {F : FTy → Type} [FloatOps F]

/-- The kernel's run, in the words of the claims: the result is the schedule's, the operands are as they were, the counters zero. -/
theorem kernel_run (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_v1) = Cert.Butterfly.resultOf m ρ c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono
    (fun _ h => ⟨fun c => ⟨(h.1 c (2 : Fin 3)).trans (Cert.Butterfly.finalA_out m ρ c), (h.1 c (0 : Fin 3)).trans (Cert.Butterfly.finalA_left m ρ c),
      (h.1 c (1 : Fin 3)).trans (Cert.Butterfly.finalA_right m ρ c)⟩, h.2⟩)
    (Cert.Butterfly.run_main m ρ)

end KernelRun

/-- The run without its value: the operands are as they were, the counters zero. -/
theorem kernel_frame {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono (fun _ h => ⟨fun c => (h.1 c).2, h.2⟩) (kernel_run m ρ)

/-- The kernel as printed ends, its operands unchanged and its counters zero. -/
theorem frame_kernel : Cert.quiescent_Kernel := by
  intro m ρ _
  rw [Cert.Butterfly.same_defs, Cert.Butterfly.same_main]
  exact kernel_frame (F := Bits) m ρ

/-- So does its reading at exact values. -/
theorem frame_ideal : Cert.quiescent_KernelIdeal := fun m ρ _ => kernel_frame (F := Ideal) m ρ

/-- So does the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result, entry by entry. -/
theorem reference_value (A : FVec Ideal Cert.ReferenceIdeal.S1024x2048 .bf16) (B : FVec Ideal Cert.ReferenceIdeal.S2048x1024 .bf16) (i : Cert.ReferenceIdeal.S1024x1024.Idx) :
    (truncf .bf16 (Host.dotGeneral Cert.ReferenceIdeal.dot_S1024x2048_S2048x1024_S1024x1024_1_0_0_1_n_n none
        (extf .f32 A Cert.ReferenceIdeal.Facts₀.bitsLt_bf16_f32) (extf .f32 B Cert.ReferenceIdeal.Facts₀.bitsLt_bf16_f32)) Cert.ReferenceIdeal.Facts₀.bitsLt_bf16_f32
      : FVec Ideal Cert.ReferenceIdeal.S1024x1024 .bf16) i = ∑ k : Fin 2048, A (ix2 (i 0) k) * B (ix2 k (i 1)) := by
  obtain ⟨r, q, rfl⟩ : ∃ (r : Fin 1024) (q : Fin 1024), i = ix2 r q := ⟨i 0, i 1, eq_ix2 i⟩
  exact StackMember.dotGeneral_plain_apply (m := 1024) (k := 2048) (n := 1024) (φ₁ := .f32) (φ₂ := .f32) none A B r q

/-- From memories that hold the blocks of the same operands, every device ends with the reference's result. -/
theorem value : Cert.algebraic_KernelIdeal_ReferenceIdeal := by
  intro m ρ m' ρ' _ hargs
  refine ⟨_, ?_, (θ_run Cert.ReferenceIdeal.defs _ _).mono (fun r h => h 0) (Cert.ReferenceIdeal.Value.run (F := Ideal) m' ρ')⟩
  refine (θ_run (Cert.KernelIdeal.defs (F := Ideal)) _ _).mono (fun _ h c => ⟨(h.1 c).1.trans ?_, (h.1 c).2⟩) (kernel_run (F := Ideal) m ρ)
  funext i
  refine (Cert.Butterfly.out_val _ _ c i).trans ?_
  refine Eq.trans ?_ (reference_value _ _ i).symm
  refine Eq.trans ?_ (Cert.Butterfly.whole_dot _ _ (by decide) (by decide) i)
  refine Finset.sum_congr rfl fun d _ => ?_
  rw [Cert.Butterfly.leftOf_eq, Cert.Butterfly.rightOf_eq]
  have hl := (hargs d).1
  have hr := (hargs d).2
  exact congrArg₂ (fun A B => Cert.Butterfly.dotOf A B i) hl hr

theorem claim : Cert.Claim := ⟨Cert.Kernel.Gen.facts, Cert.KernelIdeal.Gen.facts, Cert.ReferenceIdeal.Gen.facts,
  frame_kernel, frame_ideal, frame_reference, trivial, value⟩

end Cert.Proof

end
